-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8x4096x17 : Shape := ⟨4, ![64, 8, 4096, 17]⟩
abbrev S6 : Shape := ⟨1, ![6]⟩
abbrev S64x17x8x4096 : Shape := ⟨4, ![64, 17, 8, 4096]⟩
abbrev S_ : Shape := ⟨0, ![]⟩
abbrev S8x8x4096 : Shape := ⟨3, ![8, 8, 4096]⟩
abbrev S12x8x8x4096 : Shape := ⟨4, ![12, 8, 8, 4096]⟩
abbrev S12 : Shape := ⟨1, ![12]⟩
abbrev S1 : Shape := ⟨1, ![1]⟩
abbrev S1x8x8x4096 : Shape := ⟨4, ![1, 8, 8, 4096]⟩
abbrev S8x1x8x4096 : Shape := ⟨4, ![8, 1, 8, 4096]⟩

abbrev nBuf : Space → Nat
  | .hbm => 7
  | .vmem => 2
  | .smem => 1
  | _ => 0

abbrev bufTy : (tb : Table) → Fin (tcTables nBuf tb) → BufTy
  | .hbm, ⟨0, _⟩ => ⟨S64x8x4096x17, .f32⟩
  | .hbm, ⟨1, _⟩ => ⟨S6, .i32⟩
  | .hbm, ⟨2, _⟩ => ⟨S64x17x8x4096, .f32⟩
  | .hbm, ⟨3, _⟩ => ⟨S_, .f32⟩
  | .hbm, ⟨4, _⟩ => ⟨S8x8x4096, .f32⟩
  | .hbm, ⟨5, _⟩ => ⟨S64x17x8x4096, .f32⟩
  | .hbm, ⟨6, _⟩ => ⟨S64x8x4096x17, .f32⟩
  | .local _ .vmem, ⟨0, _⟩ => ⟨S8x8x4096, .f32⟩
  | .local _ .vmem, ⟨1, _⟩ => ⟨S12x8x8x4096, .f32⟩
  | .local _ .smem, ⟨0, _⟩ => ⟨S6, .i32⟩
  | _, _ => ⟨S64x8x4096x17, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_scratch0 : Ref sig .tc := ⟨.vmem, 1, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 : Fin 1 → Nat :=
  let c0_i32_75 : BitVec 32 := 0#32
  let c12_i32_202 : BitVec 32 := 12#32
  let v457 : BitVec 32 := Scalar.remsi c0_i32_75 c12_i32_202
  ![v457.toNat]
def k0_off2 : Fin 4 → Nat :=
  let c0_i32_75 : BitVec 32 := 0#32
  let c12_i32_202 : BitVec 32 := 12#32
  let v457 : BitVec 32 := Scalar.remsi c0_i32_75 c12_i32_202
  let c0_i32_203 : BitVec 32 := 0#32
  let c0_i32_204 : BitVec 32 := 0#32
  let c0_i32_205 : BitVec 32 := 0#32
  ![v457.toNat, 0, 0, 0]
def k0_off3 : Fin 4 → Nat :=
  let c0_i32_75 : BitVec 32 := 0#32
  let c8_i32_200 : BitVec 32 := 8#32
  let v455 : BitVec 32 := Scalar.remsi c0_i32_75 c8_i32_200
  let c8_i32_201 : BitVec 32 := 8#32
  let v456 : BitVec 32 := Scalar.muli v455 c8_i32_201
  let c0_i32_194 : BitVec 32 := 0#32
  let v439 : BitVec 1 := Scalar.cmpi .sgt c0_i32_75 c0_i32_194
  let v440 : BitVec 32 := Scalar.extui v439
  let c0_i32_195 : BitVec 32 := 0#32
  let v441 : BitVec 1 := Scalar.cmpi .slt c0_i32_75 c0_i32_195
  let v442 : BitVec 32 := Scalar.extui v441
  let v443 : BitVec 32 := Scalar.subi v440 v442
  let c8_i32_193 : BitVec 32 := 8#32
  let c0_i32_196 : BitVec 32 := 0#32
  let v444 : BitVec 1 := Scalar.cmpi .sgt c8_i32_193 c0_i32_196
  let v445 : BitVec 32 := Scalar.extui v444
  let c0_i32_197 : BitVec 32 := 0#32
  let v446 : BitVec 1 := Scalar.cmpi .slt c8_i32_193 c0_i32_197
  let v447 : BitVec 32 := Scalar.extui v446
  let v448 : BitVec 32 := Scalar.subi v445 v447
  let v449 : BitVec 1 := Scalar.cmpi .ne v443 v448
  let v450 : BitVec 32 := Scalar.remsi c0_i32_75 c8_i32_193
  let c0_i32_198 : BitVec 32 := 0#32
  let v451 : BitVec 1 := Scalar.cmpi .ne v450 c0_i32_198
  let v452 : BitVec 1 := Scalar.andi v449 v451
  let v438 : BitVec 32 := Scalar.divsi c0_i32_75 c8_i32_193
  let c1_i32_199 : BitVec 32 := 1#32
  let v453 : BitVec 32 := Scalar.subi v438 c1_i32_199
  let v454 : BitVec 32 := Scalar.select v452 v453 v438
  let c0_i32_206 : BitVec 32 := 0#32
  let c0_i32_207 : BitVec 32 := 0#32
  ![v456.toNat, v454.toNat, 0, 0]
def k0_off4 : Fin 1 → Nat :=
  let c1_i32_99 : BitVec 32 := 1#32
  let c12_i32_202 : BitVec 32 := 12#32
  let v457 : BitVec 32 := Scalar.remsi c1_i32_99 c12_i32_202
  ![v457.toNat]
def k0_off5 : Fin 4 → Nat :=
  let c1_i32_99 : BitVec 32 := 1#32
  let c12_i32_202 : BitVec 32 := 12#32
  let v457 : BitVec 32 := Scalar.remsi c1_i32_99 c12_i32_202
  let c0_i32_203 : BitVec 32 := 0#32
  let c0_i32_204 : BitVec 32 := 0#32
  let c0_i32_205 : BitVec 32 := 0#32
  ![v457.toNat, 0, 0, 0]
def k0_off6 : Fin 4 → Nat :=
  let c1_i32_99 : BitVec 32 := 1#32
  let c8_i32_200 : BitVec 32 := 8#32
  let v455 : BitVec 32 := Scalar.remsi c1_i32_99 c8_i32_200
  let c8_i32_201 : BitVec 32 := 8#32
  let v456 : BitVec 32 := Scalar.muli v455 c8_i32_201
  let c0_i32_194 : BitVec 32 := 0#32
  let v439 : BitVec 1 := Scalar.cmpi .sgt c1_i32_99 c0_i32_194
  let v440 : BitVec 32 := Scalar.extui v439
  let c0_i32_195 : BitVec 32 := 0#32
  let v441 : BitVec 1 := Scalar.cmpi .slt c1_i32_99 c0_i32_195
  let v442 : BitVec 32 := Scalar.extui v441
  let v443 : BitVec 32 := Scalar.subi v440 v442
  let c8_i32_193 : BitVec 32 := 8#32
  let c0_i32_196 : BitVec 32 := 0#32
  let v444 : BitVec 1 := Scalar.cmpi .sgt c8_i32_193 c0_i32_196
  let v445 : BitVec 32 := Scalar.extui v444
  let c0_i32_197 : BitVec 32 := 0#32
  let v446 : BitVec 1 := Scalar.cmpi .slt c8_i32_193 c0_i32_197
  let v447 : BitVec 32 := Scalar.extui v446
  let v448 : BitVec 32 := Scalar.subi v445 v447
  let v449 : BitVec 1 := Scalar.cmpi .ne v443 v448
  let v450 : BitVec 32 := Scalar.remsi c1_i32_99 c8_i32_193
  let c0_i32_198 : BitVec 32 := 0#32
  let v451 : BitVec 1 := Scalar.cmpi .ne v450 c0_i32_198
  let v452 : BitVec 1 := Scalar.andi v449 v451
  let v438 : BitVec 32 := Scalar.divsi c1_i32_99 c8_i32_193
  let c1_i32_199 : BitVec 32 := 1#32
  let v453 : BitVec 32 := Scalar.subi v438 c1_i32_199
  let v454 : BitVec 32 := Scalar.select v452 v453 v438
  let c0_i32_206 : BitVec 32 := 0#32
  let c0_i32_207 : BitVec 32 := 0#32
  ![v456.toNat, v454.toNat, 0, 0]
def k0_off7 : Fin 1 → Nat :=
  let c2_i32_122 : BitVec 32 := 2#32
  let c12_i32_202 : BitVec 32 := 12#32
  let v457 : BitVec 32 := Scalar.remsi c2_i32_122 c12_i32_202
  ![v457.toNat]
def k0_off8 : Fin 4 → Nat :=
  let c2_i32_122 : BitVec 32 := 2#32
  let c12_i32_202 : BitVec 32 := 12#32
  let v457 : BitVec 32 := Scalar.remsi c2_i32_122 c12_i32_202
  let c0_i32_203 : BitVec 32 := 0#32
  let c0_i32_204 : BitVec 32 := 0#32
  let c0_i32_205 : BitVec 32 := 0#32
  ![v457.toNat, 0, 0, 0]
def k0_off9 : Fin 4 → Nat :=
  let c2_i32_122 : BitVec 32 := 2#32
  let c8_i32_200 : BitVec 32 := 8#32
  let v455 : BitVec 32 := Scalar.remsi c2_i32_122 c8_i32_200
  let c8_i32_201 : BitVec 32 := 8#32
  let v456 : BitVec 32 := Scalar.muli v455 c8_i32_201
  let c0_i32_194 : BitVec 32 := 0#32
  let v439 : BitVec 1 := Scalar.cmpi .sgt c2_i32_122 c0_i32_194
  let v440 : BitVec 32 := Scalar.extui v439
  let c0_i32_195 : BitVec 32 := 0#32
  let v441 : BitVec 1 := Scalar.cmpi .slt c2_i32_122 c0_i32_195
  let v442 : BitVec 32 := Scalar.extui v441
  let v443 : BitVec 32 := Scalar.subi v440 v442
  let c8_i32_193 : BitVec 32 := 8#32
  let c0_i32_196 : BitVec 32 := 0#32
  let v444 : BitVec 1 := Scalar.cmpi .sgt c8_i32_193 c0_i32_196
  let v445 : BitVec 32 := Scalar.extui v444
  let c0_i32_197 : BitVec 32 := 0#32
  let v446 : BitVec 1 := Scalar.cmpi .slt c8_i32_193 c0_i32_197
  let v447 : BitVec 32 := Scalar.extui v446
  let v448 : BitVec 32 := Scalar.subi v445 v447
  let v449 : BitVec 1 := Scalar.cmpi .ne v443 v448
  let v450 : BitVec 32 := Scalar.remsi c2_i32_122 c8_i32_193
  let c0_i32_198 : BitVec 32 := 0#32
  let v451 : BitVec 1 := Scalar.cmpi .ne v450 c0_i32_198
  let v452 : BitVec 1 := Scalar.andi v449 v451
  let v438 : BitVec 32 := Scalar.divsi c2_i32_122 c8_i32_193
  let c1_i32_199 : BitVec 32 := 1#32
  let v453 : BitVec 32 := Scalar.subi v438 c1_i32_199
  let v454 : BitVec 32 := Scalar.select v452 v453 v438
  let c0_i32_206 : BitVec 32 := 0#32
  let c0_i32_207 : BitVec 32 := 0#32
  ![v456.toNat, v454.toNat, 0, 0]
def k0_off10 : Fin 1 → Nat :=
  let c3_i32_145 : BitVec 32 := 3#32
  let c12_i32_202 : BitVec 32 := 12#32
  let v457 : BitVec 32 := Scalar.remsi c3_i32_145 c12_i32_202
  ![v457.toNat]
def k0_off11 : Fin 4 → Nat :=
  let c3_i32_145 : BitVec 32 := 3#32
  let c12_i32_202 : BitVec 32 := 12#32
  let v457 : BitVec 32 := Scalar.remsi c3_i32_145 c12_i32_202
  let c0_i32_203 : BitVec 32 := 0#32
  let c0_i32_204 : BitVec 32 := 0#32
  let c0_i32_205 : BitVec 32 := 0#32
  ![v457.toNat, 0, 0, 0]
def k0_off12 : Fin 4 → Nat :=
  let c3_i32_145 : BitVec 32 := 3#32
  let c8_i32_200 : BitVec 32 := 8#32
  let v455 : BitVec 32 := Scalar.remsi c3_i32_145 c8_i32_200
  let c8_i32_201 : BitVec 32 := 8#32
  let v456 : BitVec 32 := Scalar.muli v455 c8_i32_201
  let c0_i32_194 : BitVec 32 := 0#32
  let v439 : BitVec 1 := Scalar.cmpi .sgt c3_i32_145 c0_i32_194
  let v440 : BitVec 32 := Scalar.extui v439
  let c0_i32_195 : BitVec 32 := 0#32
  let v441 : BitVec 1 := Scalar.cmpi .slt c3_i32_145 c0_i32_195
  let v442 : BitVec 32 := Scalar.extui v441
  let v443 : BitVec 32 := Scalar.subi v440 v442
  let c8_i32_193 : BitVec 32 := 8#32
  let c0_i32_196 : BitVec 32 := 0#32
  let v444 : BitVec 1 := Scalar.cmpi .sgt c8_i32_193 c0_i32_196
  let v445 : BitVec 32 := Scalar.extui v444
  let c0_i32_197 : BitVec 32 := 0#32
  let v446 : BitVec 1 := Scalar.cmpi .slt c8_i32_193 c0_i32_197
  let v447 : BitVec 32 := Scalar.extui v446
  let v448 : BitVec 32 := Scalar.subi v445 v447
  let v449 : BitVec 1 := Scalar.cmpi .ne v443 v448
  let v450 : BitVec 32 := Scalar.remsi c3_i32_145 c8_i32_193
  let c0_i32_198 : BitVec 32 := 0#32
  let v451 : BitVec 1 := Scalar.cmpi .ne v450 c0_i32_198
  let v452 : BitVec 1 := Scalar.andi v449 v451
  let v438 : BitVec 32 := Scalar.divsi c3_i32_145 c8_i32_193
  let c1_i32_199 : BitVec 32 := 1#32
  let v453 : BitVec 32 := Scalar.subi v438 c1_i32_199
  let v454 : BitVec 32 := Scalar.select v452 v453 v438
  let c0_i32_206 : BitVec 32 := 0#32
  let c0_i32_207 : BitVec 32 := 0#32
  ![v456.toNat, v454.toNat, 0, 0]
def k0_off13 : Fin 1 → Nat :=
  let c4_i32_168 : BitVec 32 := 4#32
  let c12_i32_202 : BitVec 32 := 12#32
  let v457 : BitVec 32 := Scalar.remsi c4_i32_168 c12_i32_202
  ![v457.toNat]
def k0_off14 : Fin 4 → Nat :=
  let c4_i32_168 : BitVec 32 := 4#32
  let c12_i32_202 : BitVec 32 := 12#32
  let v457 : BitVec 32 := Scalar.remsi c4_i32_168 c12_i32_202
  let c0_i32_203 : BitVec 32 := 0#32
  let c0_i32_204 : BitVec 32 := 0#32
  let c0_i32_205 : BitVec 32 := 0#32
  ![v457.toNat, 0, 0, 0]
def k0_off15 : Fin 4 → Nat :=
  let c4_i32_168 : BitVec 32 := 4#32
  let c8_i32_200 : BitVec 32 := 8#32
  let v455 : BitVec 32 := Scalar.remsi c4_i32_168 c8_i32_200
  let c8_i32_201 : BitVec 32 := 8#32
  let v456 : BitVec 32 := Scalar.muli v455 c8_i32_201
  let c0_i32_194 : BitVec 32 := 0#32
  let v439 : BitVec 1 := Scalar.cmpi .sgt c4_i32_168 c0_i32_194
  let v440 : BitVec 32 := Scalar.extui v439
  let c0_i32_195 : BitVec 32 := 0#32
  let v441 : BitVec 1 := Scalar.cmpi .slt c4_i32_168 c0_i32_195
  let v442 : BitVec 32 := Scalar.extui v441
  let v443 : BitVec 32 := Scalar.subi v440 v442
  let c8_i32_193 : BitVec 32 := 8#32
  let c0_i32_196 : BitVec 32 := 0#32
  let v444 : BitVec 1 := Scalar.cmpi .sgt c8_i32_193 c0_i32_196
  let v445 : BitVec 32 := Scalar.extui v444
  let c0_i32_197 : BitVec 32 := 0#32
  let v446 : BitVec 1 := Scalar.cmpi .slt c8_i32_193 c0_i32_197
  let v447 : BitVec 32 := Scalar.extui v446
  let v448 : BitVec 32 := Scalar.subi v445 v447
  let v449 : BitVec 1 := Scalar.cmpi .ne v443 v448
  let v450 : BitVec 32 := Scalar.remsi c4_i32_168 c8_i32_193
  let c0_i32_198 : BitVec 32 := 0#32
  let v451 : BitVec 1 := Scalar.cmpi .ne v450 c0_i32_198
  let v452 : BitVec 1 := Scalar.andi v449 v451
  let v438 : BitVec 32 := Scalar.divsi c4_i32_168 c8_i32_193
  let c1_i32_199 : BitVec 32 := 1#32
  let v453 : BitVec 32 := Scalar.subi v438 c1_i32_199
  let v454 : BitVec 32 := Scalar.select v452 v453 v438
  let c0_i32_206 : BitVec 32 := 0#32
  let c0_i32_207 : BitVec 32 := 0#32
  ![v456.toNat, v454.toNat, 0, 0]
def k0_off16 : Fin 1 → Nat :=
  let c5_i32_191 : BitVec 32 := 5#32
  let c12_i32_202 : BitVec 32 := 12#32
  let v457 : BitVec 32 := Scalar.remsi c5_i32_191 c12_i32_202
  ![v457.toNat]
def k0_off17 : Fin 4 → Nat :=
  let c5_i32_191 : BitVec 32 := 5#32
  let c12_i32_202 : BitVec 32 := 12#32
  let v457 : BitVec 32 := Scalar.remsi c5_i32_191 c12_i32_202
  let c0_i32_203 : BitVec 32 := 0#32
  let c0_i32_204 : BitVec 32 := 0#32
  let c0_i32_205 : BitVec 32 := 0#32
  ![v457.toNat, 0, 0, 0]
def k0_off18 : Fin 4 → Nat :=
  let c5_i32_191 : BitVec 32 := 5#32
  let c8_i32_200 : BitVec 32 := 8#32
  let v455 : BitVec 32 := Scalar.remsi c5_i32_191 c8_i32_200
  let c8_i32_201 : BitVec 32 := 8#32
  let v456 : BitVec 32 := Scalar.muli v455 c8_i32_201
  let c0_i32_194 : BitVec 32 := 0#32
  let v439 : BitVec 1 := Scalar.cmpi .sgt c5_i32_191 c0_i32_194
  let v440 : BitVec 32 := Scalar.extui v439
  let c0_i32_195 : BitVec 32 := 0#32
  let v441 : BitVec 1 := Scalar.cmpi .slt c5_i32_191 c0_i32_195
  let v442 : BitVec 32 := Scalar.extui v441
  let v443 : BitVec 32 := Scalar.subi v440 v442
  let c8_i32_193 : BitVec 32 := 8#32
  let c0_i32_196 : BitVec 32 := 0#32
  let v444 : BitVec 1 := Scalar.cmpi .sgt c8_i32_193 c0_i32_196
  let v445 : BitVec 32 := Scalar.extui v444
  let c0_i32_197 : BitVec 32 := 0#32
  let v446 : BitVec 1 := Scalar.cmpi .slt c8_i32_193 c0_i32_197
  let v447 : BitVec 32 := Scalar.extui v446
  let v448 : BitVec 32 := Scalar.subi v445 v447
  let v449 : BitVec 1 := Scalar.cmpi .ne v443 v448
  let v450 : BitVec 32 := Scalar.remsi c5_i32_191 c8_i32_193
  let c0_i32_198 : BitVec 32 := 0#32
  let v451 : BitVec 1 := Scalar.cmpi .ne v450 c0_i32_198
  let v452 : BitVec 1 := Scalar.andi v449 v451
  let v438 : BitVec 32 := Scalar.divsi c5_i32_191 c8_i32_193
  let c1_i32_199 : BitVec 32 := 1#32
  let v453 : BitVec 32 := Scalar.subi v438 c1_i32_199
  let v454 : BitVec 32 := Scalar.select v452 v453 v438
  let c0_i32_206 : BitVec 32 := 0#32
  let c0_i32_207 : BitVec 32 := 0#32
  ![v456.toNat, v454.toNat, 0, 0]
def k0_cond8 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32 : BitVec 32 := 6#32
  let v5 : BitVec 1 := Scalar.cmpi .sge v1 c6_i32
  let v6 : BitVec 32 := Scalar.extui v5
  let c0_i32_1 : BitVec 32 := 0#32
  let v7 : BitVec 1 := Scalar.cmpi .ne v6 c0_i32_1
  v7

def k0_off19 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_53 : BitVec 32 := 6#32
  let v138 : BitVec 32 := Scalar.subi v1 c6_i32_53
  let c12_i32_63 : BitVec 32 := 12#32
  let v158 : BitVec 32 := Scalar.remsi v138 c12_i32_63
  ![v158.toNat]
def k0_off20 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_53 : BitVec 32 := 6#32
  let v138 : BitVec 32 := Scalar.subi v1 c6_i32_53
  let c8_i32_61 : BitVec 32 := 8#32
  let v156 : BitVec 32 := Scalar.remsi v138 c8_i32_61
  let c8_i32_62 : BitVec 32 := 8#32
  let v157 : BitVec 32 := Scalar.muli v156 c8_i32_62
  let c0_i32_55 : BitVec 32 := 0#32
  let v140 : BitVec 1 := Scalar.cmpi .sgt v138 c0_i32_55
  let v141 : BitVec 32 := Scalar.extui v140
  let c0_i32_56 : BitVec 32 := 0#32
  let v142 : BitVec 1 := Scalar.cmpi .slt v138 c0_i32_56
  let v143 : BitVec 32 := Scalar.extui v142
  let v144 : BitVec 32 := Scalar.subi v141 v143
  let c8_i32_54 : BitVec 32 := 8#32
  let c0_i32_57 : BitVec 32 := 0#32
  let v145 : BitVec 1 := Scalar.cmpi .sgt c8_i32_54 c0_i32_57
  let v146 : BitVec 32 := Scalar.extui v145
  let c0_i32_58 : BitVec 32 := 0#32
  let v147 : BitVec 1 := Scalar.cmpi .slt c8_i32_54 c0_i32_58
  let v148 : BitVec 32 := Scalar.extui v147
  let v149 : BitVec 32 := Scalar.subi v146 v148
  let v150 : BitVec 1 := Scalar.cmpi .ne v144 v149
  let v151 : BitVec 32 := Scalar.remsi v138 c8_i32_54
  let c0_i32_59 : BitVec 32 := 0#32
  let v152 : BitVec 1 := Scalar.cmpi .ne v151 c0_i32_59
  let v153 : BitVec 1 := Scalar.andi v150 v152
  let v139 : BitVec 32 := Scalar.divsi v138 c8_i32_54
  let c1_i32_60 : BitVec 32 := 1#32
  let v154 : BitVec 32 := Scalar.subi v139 c1_i32_60
  let v155 : BitVec 32 := Scalar.select v153 v154 v139
  let c0_i32_64 : BitVec 32 := 0#32
  let c0_i32_65 : BitVec 32 := 0#32
  ![v157.toNat, v155.toNat, 0, 0]
def k0_cond9 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_2 : BitVec 32 := 6#32
  let v8 : BitVec 32 := Scalar.addi v1 c6_i32_2
  let c136_i32 : BitVec 32 := 136#32
  let v9 : BitVec 1 := Scalar.cmpi .slt v8 c136_i32
  let v10 : BitVec 32 := Scalar.extui v9
  let c0_i32_3 : BitVec 32 := 0#32
  let v11 : BitVec 1 := Scalar.cmpi .ne v10 c0_i32_3
  v11

def k0_off21 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_53 : BitVec 32 := 6#32
  let v138 : BitVec 32 := Scalar.addi v1 c6_i32_53
  let c12_i32_85 : BitVec 32 := 12#32
  let v208 : BitVec 32 := Scalar.remsi v138 c12_i32_85
  ![v208.toNat]
def k0_off22 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_53 : BitVec 32 := 6#32
  let v138 : BitVec 32 := Scalar.addi v1 c6_i32_53
  let c12_i32_85 : BitVec 32 := 12#32
  let v208 : BitVec 32 := Scalar.remsi v138 c12_i32_85
  let c0_i32_86 : BitVec 32 := 0#32
  let c0_i32_87 : BitVec 32 := 0#32
  let c0_i32_88 : BitVec 32 := 0#32
  ![v208.toNat, 0, 0, 0]
def k0_off23 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_53 : BitVec 32 := 6#32
  let v138 : BitVec 32 := Scalar.addi v1 c6_i32_53
  let c8_i32_83 : BitVec 32 := 8#32
  let v206 : BitVec 32 := Scalar.remsi v138 c8_i32_83
  let c8_i32_84 : BitVec 32 := 8#32
  let v207 : BitVec 32 := Scalar.muli v206 c8_i32_84
  let c0_i32_77 : BitVec 32 := 0#32
  let v190 : BitVec 1 := Scalar.cmpi .sgt v138 c0_i32_77
  let v191 : BitVec 32 := Scalar.extui v190
  let c0_i32_78 : BitVec 32 := 0#32
  let v192 : BitVec 1 := Scalar.cmpi .slt v138 c0_i32_78
  let v193 : BitVec 32 := Scalar.extui v192
  let v194 : BitVec 32 := Scalar.subi v191 v193
  let c8_i32_76 : BitVec 32 := 8#32
  let c0_i32_79 : BitVec 32 := 0#32
  let v195 : BitVec 1 := Scalar.cmpi .sgt c8_i32_76 c0_i32_79
  let v196 : BitVec 32 := Scalar.extui v195
  let c0_i32_80 : BitVec 32 := 0#32
  let v197 : BitVec 1 := Scalar.cmpi .slt c8_i32_76 c0_i32_80
  let v198 : BitVec 32 := Scalar.extui v197
  let v199 : BitVec 32 := Scalar.subi v196 v198
  let v200 : BitVec 1 := Scalar.cmpi .ne v194 v199
  let v201 : BitVec 32 := Scalar.remsi v138 c8_i32_76
  let c0_i32_81 : BitVec 32 := 0#32
  let v202 : BitVec 1 := Scalar.cmpi .ne v201 c0_i32_81
  let v203 : BitVec 1 := Scalar.andi v200 v202
  let v189 : BitVec 32 := Scalar.divsi v138 c8_i32_76
  let c1_i32_82 : BitVec 32 := 1#32
  let v204 : BitVec 32 := Scalar.subi v189 c1_i32_82
  let v205 : BitVec 32 := Scalar.select v203 v204 v189
  let c0_i32_89 : BitVec 32 := 0#32
  let c0_i32_90 : BitVec 32 := 0#32
  ![v207.toNat, v205.toNat, 0, 0]
def k0_off24 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c12_i32_53 : BitVec 32 := 12#32
  let v138 : BitVec 32 := Scalar.remsi v1 c12_i32_53
  ![v138.toNat]
def k0_off25 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c12_i32_53 : BitVec 32 := 12#32
  let v138 : BitVec 32 := Scalar.remsi v1 c12_i32_53
  let c0_i32_55 : BitVec 32 := 0#32
  let c0_i32_56 : BitVec 32 := 0#32
  let c0_i32_57 : BitVec 32 := 0#32
  ![v138.toNat, 0, 0, 0]
def k0_off26 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c12_i32 : BitVec 32 := 12#32
  let v81 : BitVec 32 := Scalar.remsi v1 c12_i32
  ![v81.toNat]
def k0_off27 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_26 : BitVec 32 := 8#32
  let v79 : BitVec 32 := Scalar.remsi v1 c8_i32_26
  let c8_i32_27 : BitVec 32 := 8#32
  let v80 : BitVec 32 := Scalar.muli v79 c8_i32_27
  let c0_i32_20 : BitVec 32 := 0#32
  let v63 : BitVec 1 := Scalar.cmpi .sgt v1 c0_i32_20
  let v64 : BitVec 32 := Scalar.extui v63
  let c0_i32_21 : BitVec 32 := 0#32
  let v65 : BitVec 1 := Scalar.cmpi .slt v1 c0_i32_21
  let v66 : BitVec 32 := Scalar.extui v65
  let v67 : BitVec 32 := Scalar.subi v64 v66
  let c8_i32_19 : BitVec 32 := 8#32
  let c0_i32_22 : BitVec 32 := 0#32
  let v68 : BitVec 1 := Scalar.cmpi .sgt c8_i32_19 c0_i32_22
  let v69 : BitVec 32 := Scalar.extui v68
  let c0_i32_23 : BitVec 32 := 0#32
  let v70 : BitVec 1 := Scalar.cmpi .slt c8_i32_19 c0_i32_23
  let v71 : BitVec 32 := Scalar.extui v70
  let v72 : BitVec 32 := Scalar.subi v69 v71
  let v73 : BitVec 1 := Scalar.cmpi .ne v67 v72
  let v74 : BitVec 32 := Scalar.remsi v1 c8_i32_19
  let c0_i32_24 : BitVec 32 := 0#32
  let v75 : BitVec 1 := Scalar.cmpi .ne v74 c0_i32_24
  let v76 : BitVec 1 := Scalar.andi v73 v75
  let v62 : BitVec 32 := Scalar.divsi v1 c8_i32_19
  let c1_i32_25 : BitVec 32 := 1#32
  let v77 : BitVec 32 := Scalar.subi v62 c1_i32_25
  let v78 : BitVec 32 := Scalar.select v76 v77 v62
  let c0_i32_53 : BitVec 32 := 0#32
  let c0_i32_54 : BitVec 32 := 0#32
  ![v80.toNat, v78.toNat, 0, 0]
def k0_off28 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c12_i32 : BitVec 32 := 12#32
  let v81 : BitVec 32 := Scalar.remsi v1 c12_i32
  let c0_i32_55 : BitVec 32 := 0#32
  let c0_i32_56 : BitVec 32 := 0#32
  let c0_i32_57 : BitVec 32 := 0#32
  ![v81.toNat, 0, 0, 0]
def k0_off29 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c12_i32 : BitVec 32 := 12#32
  let v81 : BitVec 32 := Scalar.remsi v1 c12_i32
  ![v81.toNat]
def k0_off30 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_26 : BitVec 32 := 8#32
  let v79 : BitVec 32 := Scalar.remsi v1 c8_i32_26
  let c8_i32_27 : BitVec 32 := 8#32
  let v80 : BitVec 32 := Scalar.muli v79 c8_i32_27
  let c0_i32_20 : BitVec 32 := 0#32
  let v63 : BitVec 1 := Scalar.cmpi .sgt v1 c0_i32_20
  let v64 : BitVec 32 := Scalar.extui v63
  let c0_i32_21 : BitVec 32 := 0#32
  let v65 : BitVec 1 := Scalar.cmpi .slt v1 c0_i32_21
  let v66 : BitVec 32 := Scalar.extui v65
  let v67 : BitVec 32 := Scalar.subi v64 v66
  let c8_i32_19 : BitVec 32 := 8#32
  let c0_i32_22 : BitVec 32 := 0#32
  let v68 : BitVec 1 := Scalar.cmpi .sgt c8_i32_19 c0_i32_22
  let v69 : BitVec 32 := Scalar.extui v68
  let c0_i32_23 : BitVec 32 := 0#32
  let v70 : BitVec 1 := Scalar.cmpi .slt c8_i32_19 c0_i32_23
  let v71 : BitVec 32 := Scalar.extui v70
  let v72 : BitVec 32 := Scalar.subi v69 v71
  let v73 : BitVec 1 := Scalar.cmpi .ne v67 v72
  let v74 : BitVec 32 := Scalar.remsi v1 c8_i32_19
  let c0_i32_24 : BitVec 32 := 0#32
  let v75 : BitVec 1 := Scalar.cmpi .ne v74 c0_i32_24
  let v76 : BitVec 1 := Scalar.andi v73 v75
  let v62 : BitVec 32 := Scalar.divsi v1 c8_i32_19
  let c1_i32_25 : BitVec 32 := 1#32
  let v77 : BitVec 32 := Scalar.subi v62 c1_i32_25
  let v78 : BitVec 32 := Scalar.select v76 v77 v62
  let c0_i32_53 : BitVec 32 := 0#32
  let c0_i32_54 : BitVec 32 := 0#32
  ![v80.toNat, v78.toNat, 0, 0]
def k0_cond14 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c135_i32 : BitVec 32 := 135#32
  let v135 : BitVec 1 := Scalar.cmpi .eq v1 c135_i32
  let v136 : BitVec 32 := Scalar.extui v135
  let c0_i32_52 : BitVec 32 := 0#32
  let v137 : BitVec 1 := Scalar.cmpi .ne v136 c0_i32_52
  v137

def k0_off31 (i : grid0.Coords) (c0_i32_53 : BitVec 32) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v138 : BitVec 32 := Scalar.subi v1 c0_i32_53
  let c12_i32_63 : BitVec 32 := 12#32
  let v158 : BitVec 32 := Scalar.remsi v138 c12_i32_63
  ![v158.toNat]
def k0_off32 (i : grid0.Coords) (c0_i32_53 : BitVec 32) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v138 : BitVec 32 := Scalar.subi v1 c0_i32_53
  let c8_i32_61 : BitVec 32 := 8#32
  let v156 : BitVec 32 := Scalar.remsi v138 c8_i32_61
  let c8_i32_62 : BitVec 32 := 8#32
  let v157 : BitVec 32 := Scalar.muli v156 c8_i32_62
  let c0_i32_55 : BitVec 32 := 0#32
  let v140 : BitVec 1 := Scalar.cmpi .sgt v138 c0_i32_55
  let v141 : BitVec 32 := Scalar.extui v140
  let c0_i32_56 : BitVec 32 := 0#32
  let v142 : BitVec 1 := Scalar.cmpi .slt v138 c0_i32_56
  let v143 : BitVec 32 := Scalar.extui v142
  let v144 : BitVec 32 := Scalar.subi v141 v143
  let c8_i32_54 : BitVec 32 := 8#32
  let c0_i32_57 : BitVec 32 := 0#32
  let v145 : BitVec 1 := Scalar.cmpi .sgt c8_i32_54 c0_i32_57
  let v146 : BitVec 32 := Scalar.extui v145
  let c0_i32_58 : BitVec 32 := 0#32
  let v147 : BitVec 1 := Scalar.cmpi .slt c8_i32_54 c0_i32_58
  let v148 : BitVec 32 := Scalar.extui v147
  let v149 : BitVec 32 := Scalar.subi v146 v148
  let v150 : BitVec 1 := Scalar.cmpi .ne v144 v149
  let v151 : BitVec 32 := Scalar.remsi v138 c8_i32_54
  let c0_i32_59 : BitVec 32 := 0#32
  let v152 : BitVec 1 := Scalar.cmpi .ne v151 c0_i32_59
  let v153 : BitVec 1 := Scalar.andi v150 v152
  let v139 : BitVec 32 := Scalar.divsi v138 c8_i32_54
  let c1_i32_60 : BitVec 32 := 1#32
  let v154 : BitVec 32 := Scalar.subi v139 c1_i32_60
  let v155 : BitVec 32 := Scalar.select v153 v154 v139
  let c0_i32_64 : BitVec 32 := 0#32
  let c0_i32_65 : BitVec 32 := 0#32
  ![v157.toNat, v155.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S64x8x4096x17 : Shape := ⟨4, ![64, 8, 4096, 17]⟩
abbrev S6 : Shape := ⟨1, ![6]⟩
abbrev S17 : Shape := ⟨1, ![17]⟩
abbrev S_ : Shape := ⟨0, ![]⟩
abbrev S17x1 : Shape := ⟨2, ![17, 1]⟩
abbrev S1x6 : Shape := ⟨2, ![1, 6]⟩
abbrev S17x6 : Shape := ⟨2, ![17, 6]⟩
abbrev S1x1x1x17 : Shape := ⟨4, ![1, 1, 1, 17]⟩

abbrev nBuf : Space → Nat
  | .hbm => 21
  | .vmem => 0
  | .smem => 0
  | _ => 0

abbrev bufTy : (tb : Table) → Fin (tcTables nBuf tb) → BufTy
  | .hbm, ⟨0, _⟩ => ⟨S64x8x4096x17, .f32⟩
  | .hbm, ⟨1, _⟩ => ⟨S6, .i32⟩
  | .hbm, ⟨2, _⟩ => ⟨S17, .i32⟩
  | .hbm, ⟨3, _⟩ => ⟨S_, .i32⟩
  | .hbm, ⟨4, _⟩ => ⟨S17, .i32⟩
  | .hbm, ⟨5, _⟩ => ⟨S17, .i32⟩
  | .hbm, ⟨6, _⟩ => ⟨S17x1, .i32⟩
  | .hbm, ⟨7, _⟩ => ⟨S1x6, .i32⟩
  | .hbm, ⟨8, _⟩ => ⟨S17x6, .i32⟩
  | .hbm, ⟨9, _⟩ => ⟨S17x6, .i32⟩
  | .hbm, ⟨10, _⟩ => ⟨S17x6, .i1⟩
  | .hbm, ⟨11, _⟩ => ⟨S_, .i1⟩
  | .hbm, ⟨12, _⟩ => ⟨S17, .i1⟩
  | .hbm, ⟨13, _⟩ => ⟨S_, .f32⟩
  | .hbm, ⟨14, _⟩ => ⟨S_, .f32⟩
  | .hbm, ⟨15, _⟩ => ⟨S17, .f32⟩
  | .hbm, ⟨16, _⟩ => ⟨S17, .f32⟩
  | .hbm, ⟨17, _⟩ => ⟨S17, .f32⟩
  | .hbm, ⟨18, _⟩ => ⟨S1x1x1x17, .f32⟩
  | .hbm, ⟨19, _⟩ => ⟨S64x8x4096x17, .f32⟩
  | .hbm, ⟨20, _⟩ => ⟨S64x8x4096x17, .f32⟩
  | _, _ => ⟨S64x8x4096x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_cst : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Proof.Loop.lean ====
/-
  The pallas_call's loop, unrolled: what its iterations run (`iter_zero`, `iter_one`, `iter_later`). The two
  windows, the table of removed electrodes and the block of zeros, are fetched before the first grid point and at no
  other, and nothing is written back: every later iteration is the kernel's body and the call of the next iteration.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

noncomputable section

namespace Cert.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The programs the loop is made of. -/
abbrev LProg (F : FTy → Type) [FloatOps F] : Type 1 :=
  Prog (TpuEff nD τ sig (Elt F) (Pipeline.Sig Λ₀ (Fin 1) fun p => (pcfgs (F := F) p).Adm) .tc) PUnit

/-- Grid point `t`. -/
abbrev pt (t : ℕ) (h : t < 136) : Fin cfg0.N := ⟨t, lt_of_lt_of_eq h N_0.symm⟩

/-- The call of the kernel's body at grid point `u`, then `k`. -/
abbrev callBody (u : Fin cfg0.N) (k : LProg F) : LProg F :=
  Prog.op (.call (Pipeline.kernel cfg0.body) (cfg0.bodyArgs u (cfg0.slots u))) fun _ => k

/-- The call of the loop at iteration `ℓ`, then the end. -/
abbrev callLoop (a : (pcfgs (F := F) 0).Adm) (ℓ : ℕ) : LProg F := Prog.op (.call (Pipeline.pipe 0) (a, ℓ)) fun _ => .ret ⟨⟩

/-- Iteration `ℓ` of the loop. -/
abbrev iterAt (a : (pcfgs (F := F) 0).Adm) (ℓ : ℕ) : LProg F :=
  Pipeline.Cfg.iter (nD := nD) (τ := τ) (Val := Elt F) (A := fun p : Fin 1 => (pcfgs (F := F) p).Adm) cfg0 0 a ℓ

theorem tripCount_eq : cfg0.tripCount = 137 := by decide

theorem prologue_eq : cfg0.prologue = 1 := by decide

/-- Both windows in order. -/
theorem eachWin_eq (p : Fin cfg0.W → Bool) (f : Fin cfg0.W → LProg F → LProg F) (k : LProg F) :
    Pipeline.Cfg.eachWin (nD := nD) (τ := τ) (Val := Elt F) (A := fun p : Fin 1 => (pcfgs (F := F) p).Adm) cfg0 p f k
      = if p 0 then f 0 (if p 1 then f 1 k else k) else if p 1 then f 1 k else k := by
  rw [Pipeline.Cfg.eachWin, show List.finRange cfg0.W = [0, 1] by decide]
  rfl

/-- No window taken. -/
theorem eachWin_none (p : Fin cfg0.W → Bool) (hp : ∀ w, p w = false) (f : Fin cfg0.W → LProg F → LProg F) (k : LProg F) :
    Pipeline.Cfg.eachWin (nD := nD) (τ := τ) (Val := Elt F) (A := fun p : Fin 1 => (pcfgs (F := F) p).Adm) cfg0 p f k = k := by
  rw [eachWin_eq, hp 0, hp 1]; rfl

/-- Both windows taken. -/
theorem eachWin_both (p : Fin cfg0.W → Bool) (hp : ∀ w, p w = true) (f : Fin cfg0.W → LProg F → LProg F) (k : LProg F) :
    Pipeline.Cfg.eachWin (nD := nD) (τ := τ) (Val := Elt F) (A := fun p : Fin 1 => (pcfgs (F := F) p).Adm) cfg0 p f k = f 0 (f 1 k) := by
  rw [eachWin_eq, hp 0, hp 1]; rfl

theorem single_eq (w : Fin cfg0.W) : (cfg0.win w).single = true := by
  fin_cases w <;> decide

theorem flush_eq (w : Fin cfg0.W) (u : Fin cfg0.N) : (cfg0.win w).flush u = false := by
  fin_cases w <;> rfl

theorem fetch_first (w : Fin cfg0.W) : (cfg0.win w).fetch (pt 0 (by decide)) = true := by
  fin_cases w
  · exact (fetch0_0 _).2 rfl
  · exact (fetch0_1 _).2 rfl

theorem fetch_later (w : Fin cfg0.W) (t : ℕ) (h : t < 136) (h0 : 0 < t) : (cfg0.win w).fetch (pt t h) = false := by
  have hne : ¬ (t % 136 = 0) := by omega
  fin_cases w
  · exact Bool.eq_false_iff.2 fun hc => hne ((fetch0_0 (pt t h)).1 hc)
  · exact Bool.eq_false_iff.2 fun hc => hne ((fetch0_1 (pt t h)).1 hc)

/-- A step at grid point `t - d`, where there is none. -/
theorem atPoint_none (t d : ℕ) (h : t < d) (f : Fin cfg0.N → LProg F → LProg F) (k : LProg F) :
    Pipeline.Cfg.atPoint (nD := nD) (τ := τ) (Val := Elt F) (A := fun p : Fin 1 => (pcfgs (F := F) p).Adm) cfg0 t d f k = k := by
  unfold Pipeline.Cfg.atPoint Pipeline.Cfg.point
  rw [dif_neg (by omega)]

/-- A step at grid point `t - d`. -/
theorem atPoint_some (t d : ℕ) (h : d ≤ t) (h' : t - d < 136) (f : Fin cfg0.N → LProg F → LProg F) (k : LProg F) :
    Pipeline.Cfg.atPoint (nD := nD) (τ := τ) (Val := Elt F) (A := fun p : Fin 1 => (pcfgs (F := F) p).Adm) cfg0 t d f k
      = f (pt (t - d) h') k := by
  unfold Pipeline.Cfg.atPoint Pipeline.Cfg.point
  rw [dif_pos ⟨h, lt_of_lt_of_eq h' N_0.symm⟩]

/-- A step that is nothing at any point is nothing. -/
theorem atPoint_id (t d : ℕ) (f : Fin cfg0.N → LProg F → LProg F) (hf : ∀ u k, f u k = k) (k : LProg F) :
    Pipeline.Cfg.atPoint (nD := nD) (τ := τ) (Val := Elt F) (A := fun p : Fin 1 => (pcfgs (F := F) p).Adm) cfg0 t d f k = k := by
  unfold Pipeline.Cfg.atPoint
  split
  · exact hf _ _
  · rfl

/-- The part of an iteration that fetches ahead into double buffers and the part that collects write-backs are nothing. -/
theorem ahead_none (p : Fin cfg0.N → Fin cfg0.W → Bool) (hp : ∀ u w, p u w = false) (t d : ℕ)
    (f : Fin cfg0.N → Fin cfg0.W → LProg F → LProg F) (k : LProg F) :
    Pipeline.Cfg.atPoint (nD := nD) (τ := τ) (Val := Elt F) (A := fun p : Fin 1 => (pcfgs (F := F) p).Adm) cfg0 t d
      (fun u => Pipeline.Cfg.eachWin (nD := nD) (τ := τ) (Val := Elt F) (A := fun p : Fin 1 => (pcfgs (F := F) p).Adm) cfg0 (p u) (f u)) k = k :=
  atPoint_id t d _ (fun u k => eachWin_none (p u) (hp u) (f u) k) k

/-- The first iteration calls the second. -/
theorem iter_zero (a : (pcfgs (F := F) 0).Adm) : iterAt a 0 = callLoop a 1 := by
  unfold iterAt Pipeline.Cfg.iter
  dsimp only
  rw [prologue_eq, tripCount_eq, atPoint_none 0 1 (by decide),
    ahead_none (fun u w => !(cfg0.win w).single && (cfg0.win w).fetch u) (fun u w => by rw [single_eq]; rfl),
    atPoint_none 0 1 (by decide), atPoint_none 0 2 (by decide), if_pos (by decide)]

/-- The second fetches both windows, waits for both, runs the body at the first grid point and calls the third. -/
theorem iter_one (a : (pcfgs (F := F) 0).Adm) : iterAt a 1 =
    .op (cfg0.startIn 0 (pt 0 (by decide))) fun _ => .op (cfg0.startIn 1 (pt 0 (by decide))) fun _ =>
    .op (cfg0.waitIn 0 (pt 0 (by decide))) fun _ => .op (cfg0.waitIn 1 (pt 0 (by decide))) fun _ =>
    callBody (pt 0 (by decide)) (callLoop a 2) := by
  unfold iterAt Pipeline.Cfg.iter
  dsimp only
  rw [prologue_eq, tripCount_eq, atPoint_some 1 1 (by decide) (by decide),
    ahead_none (fun u w => !(cfg0.win w).single && (cfg0.win w).fetch u) (fun u w => by rw [single_eq]; rfl),
    atPoint_some 1 1 (by decide) (by decide), atPoint_none 1 2 (by decide), if_pos (by decide)]
  rw [eachWin_both _ (fun w => by rw [single_eq, fetch_first]; rfl), eachWin_both _ (fun w => fetch_first w),
    eachWin_none _ (fun w => flush_eq w _), eachWin_none _ (fun w => by rw [flush_eq, Bool.and_false])]
  rfl

/-- Every later one runs the body and, but for the last, calls the next. -/
theorem iter_later (a : (pcfgs (F := F) 0).Adm) (t : ℕ) (h : t < 136) (h0 : 0 < t) :
    iterAt a (t + 1) = callBody (pt t h) (if t + 2 < 137 then callLoop a (t + 2) else .ret ⟨⟩) := by
  unfold iterAt Pipeline.Cfg.iter
  dsimp only
  rw [prologue_eq, tripCount_eq, atPoint_some (t + 1) 1 (by omega) (by omega),
    ahead_none (fun u w => !(cfg0.win w).single && (cfg0.win w).fetch u) (fun u w => by rw [single_eq]; rfl),
    atPoint_some (t + 1) 1 (by omega) (by omega),
    ahead_none (fun u w => !(cfg0.win w).single && (cfg0.win w).flush u) (fun u w => by rw [single_eq]; rfl)]
  simp only [Nat.add_sub_cancel]
  rw [eachWin_none _ (fun w => by rw [fetch_later w t h h0, Bool.and_false]), eachWin_none _ (fun w => fetch_later w t h h0),
    eachWin_none _ (fun w => flush_eq w _), eachWin_none _ (fun w => by rw [flush_eq, Bool.and_false])]

end Cert.Ring

end
-- ==== Proof.Region.lean ====
/-
  The pallas_call run with an invariant of one's own: from a family `I t` of resources, the body at grid point `t`
  taking `I t` to `I (t + 1)`, the whole loop takes `I 0` to `I 136` (`wp_loop`); before it, the two windows are
  fetched (`wp_fetch`).
-/
module

public import proofs.«01_k».proof.Proof.Loop

@[expose] public section

noncomputable section

namespace Cert.Ring

open Cert.KernelIdeal Cert.KernelIdeal.Gen
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕍" => Variants.none.lift

/-- The counters a transfer of the core's own is followed by. -/
abbrev EC : UEmb Counters 𝕄 := countersEmb

/-- The loop's definitions: the kernel's, extended by the pallas_call's. -/
abbrev LDefs (F : FTy → Type) [FloatOps F] := Pipeline.defs (pcfgs (F := F)) (defs₀ (F := F))

/-- The weakest precondition of a program of the loop on core `c`, under the bound `bd`. -/
abbrev wpL (c : Dev nD) (bd : Option (𝕍).V) (p : LProg F) (Q : PUnit → sProp 𝕄) : sProp 𝕄 :=
  wp frame (wpE (LDefs F) 𝕍 (c.tc : Thread nD τ) bd) Set.univ p Q

/-- What the body at grid point `t` runs. -/
abbrev bodyAt (t : ℕ) (h : t < 136) : Prog (TpuEff nD τ sig (Elt F) Λ₀ .tc) PUnit :=
  defs₀ (F := F) .tc cfg0.body (cfg0.bodyArgs (pt t h) (cfg0.slots (pt t h)))

/-- The body at every point takes the resources of the point to those of the next. -/
def BodyStep (c : Dev nD) (I : ℕ → sProp 𝕄) : Prop :=
  ∀ t (h : t < 136), I t ⊢ wp frame (wpE (defs₀ (F := F)) Variants.none (c.tc : Thread nD τ) none) Set.univ
    (bodyAt (F := F) t h) fun _ => I (t + 1)

/-- The end of a program. -/
theorem wpL_ret (c : Dev nD) (bd : Option (𝕍).V) (Q : PUnit → sProp 𝕄) : Q ⟨⟩ ⊢ wpL c bd (.ret ⟨⟩ : LProg F) Q :=
  (fupd_intro : Q ⟨⟩ ⊢ iprop(|={Set.univ}[frame]=> Q ⟨⟩))

/-- The call of the body. -/
theorem wp_callBody (c : Dev nD) (I : ℕ → sProp 𝕄) (hI : BodyStep (F := F) c I) (t : ℕ) (h : t < 136)
    (bd : Option (𝕍).V) (hbd : ∀ v ∈ bd, (𝕍).lt (.inl none) v) (k : LProg F) (Q : PUnit → sProp 𝕄) :
    I t ⊢ iprop((I (t + 1) -∗ wpL c bd k Q) -∗ wpL c bd (callBody (pt t h) k) Q) := by
  iintro H Hk
  iapply (wp_call 𝕍 (c.tc : Thread nD τ) bd Set.univ (Q := Q) (ℓ := Pipeline.kernel cfg0.body)
    (a := cfg0.bodyArgs (pt t h) (cfg0.slots (pt t h))) (k := fun _ => k) (Sum.inl none) hbd)
  iapply (show wp frame (wpE (LDefs F) 𝕍 (c.tc : Thread nD τ) (some (.inl none))) Set.univ
        (Pipeline.liftProg (bodyAt (F := F) t h)) _
      ⊢ wp frame (wpE (LDefs F) 𝕍 (c.tc : Thread nD τ) (some (.inl none))) Set.univ
        (LDefs F .tc (Pipeline.kernel cfg0.body) (cfg0.bodyArgs (pt t h) (cfg0.slots (pt t h)))) _ from
          Entails.of_eq (by rw [show LDefs F .tc (Pipeline.kernel cfg0.body) (cfg0.bodyArgs (pt t h) (cfg0.slots (pt t h)))
            = Pipeline.liftProg (bodyAt (F := F) t h) from Pipeline.defs_kernel pcfgs defs₀ _ _ _]))
  iapply (wp_wand_r frame _ Set.univ)
  isplitl [H]
  · iapply (Pipeline.wp_liftProg (LDefs F) (Pipeline.defs_kernel pcfgs defs₀) Variants.none (c.tc : Thread nD τ) Set.univ none)
    iapply (hI t h)
    iexact H
  · iintro %x H
    iapply Hk
    iexact H

/-- The call of the loop's next iteration. -/
theorem wp_callLoop (c : Dev nD) (a : (pcfgs (F := F) 0).Adm) (ℓ m : ℕ) (bd : Option (𝕍).V)
    (hbd : ∀ v ∈ bd, (𝕍).lt (.inr m) v) (Q : PUnit → sProp 𝕄) :
    wpL c (some (.inr m)) (iterAt a ℓ) Q ⊢ wpL c bd (callLoop a ℓ) Q := by
  iintro H
  iapply (wp_call 𝕍 (c.tc : Thread nD τ) bd Set.univ (Q := Q) (ℓ := Pipeline.pipe 0) (a := (a, ℓ)) (k := fun _ => .ret ⟨⟩) (Sum.inr m) hbd)
  iapply (wp_wand_r frame _ Set.univ)
  isplitl [H]
  · iexact H
  · iintro %x H
    iapply (wpL_ret c bd Q)
    iexact H

/-- The iterations from a later grid point on. -/
theorem wp_loop (c : Dev nD) (I : ℕ → sProp 𝕄) (hI : BodyStep (F := F) c I) (a : (pcfgs (F := F) 0).Adm) :
    ∀ (n t m : ℕ), t + n = 135 → n < m → 0 < t → ∀ Q : PUnit → sProp 𝕄,
      I t ⊢ iprop((I 136 -∗ Q ⟨⟩) -∗ wpL c (some (.inr m)) (iterAt a (t + 1)) Q) := by
  intro n
  induction n with
  | zero =>
      intro t m ht hm h0 Q
      obtain rfl : t = 135 := by omega
      have hb : (135 : ℕ) < 136 := by decide
      rw [iter_later a 135 (by omega) h0, if_neg (by decide)]
      iintro H Hk
      iapply (wp_callBody c I hI 135 hb _ (fun v hv => by cases hv; exact Sum.Lex.sep _ _) _ Q) $$ H
      iintro H
      iapply (wpL_ret c _ Q)
      iapply Hk
      iexact H
  | succ n ih =>
      intro t m ht hm h0 Q
      have hb : t < 136 := by omega
      rw [iter_later a t hb h0, if_pos (by omega)]
      iintro H Hk
      iapply (wp_callBody c I hI t hb _ (fun v hv => by cases hv; exact Sum.Lex.sep _ _) _ Q) $$ H
      iintro H
      iapply (wp_callLoop c a (t + 2) (m - 1) _ (fun v hv => by cases hv; exact Sum.Lex.inr (by omega)) Q)
      iapply (ih (t + 1) (m - 1) (by omega) (by omega) (by omega) Q) $$ H
      iexact Hk

/-! ### The windows' fetch -/

/-- The first grid point. -/
abbrev p0 : Fin cfg0.N := pt 0 (by decide)

/-- The cell of window `w`'s staging semaphore. -/
abbrev stgSem (w : Fin cfg0.W) : DmaSem sig := (cfg0.win w).sem (cfg0.slots p0 w)

/-- An array of the TensorCore, whole. -/
abbrev whole (c : Dev nD) (b : Ref sig .tc) (f : b.ty.Contents (Elt F)) : sProp 𝕄 :=
  (Memref.whole b).view.loc (c.tc : Thread nD τ) ↦{fullShare} f

/-- What the windows' fetch works on: the table of removed electrodes `Rm` and the block of zeros `Zm` in their
    arrays, the two staging buffers with contents `f0` and `f1`, and the staging semaphores at zero. -/
abbrev staged (c : Dev nD) (Rm : S6.Idx → Elt F .i32) (Zm : S8x8x4096.Idx → Elt F .f32) (f0 : S6.Idx → Elt F .i32)
    (f1 : S8x8x4096.Idx → Elt F .f32) : sProp 𝕄 :=
  iprop(whole c main_arg1 Rm ∗ whole c main_v1 Zm ∗ whole c cc0_stg0_0 f0 ∗ whole c cc0_stg1_0 f1
    ∗ semVal ((c.tc : Thread nD τ), SemLoc.dma (stgSem 0)) 0 ∗ semVal ((c.tc : Thread nD τ), SemLoc.dma (stgSem 1)) 0)

/-- An offset of zero and a stride of one keep the position. -/
theorem at_self {o s : ℕ} (h0 : o = 0) (h1 : s = 1) (j : ℕ) : o + s * j = j := by
  rw [h0, h1, Nat.one_mul, Nat.zero_add]

theorem blk0_emb (i : S6.Idx) : ((cfg0.win 0).blk p0).view.emb i = i := by
  funext d; fin_cases d; apply Fin.ext; exact at_self rfl rfl _

theorem stg0_emb (i : S6.Idx) : ((cfg0.win 0).stg p0 (cfg0.slots p0 0)).view.emb i = i := by
  funext d; fin_cases d; apply Fin.ext; exact at_self rfl rfl _

theorem blk1_emb (i : S8x8x4096.Idx) : ((cfg0.win 1).blk p0).view.emb i = i := by
  funext d; fin_cases d <;> apply Fin.ext <;> exact at_self rfl rfl _

theorem stg1_emb (i : S8x8x4096.Idx) : ((cfg0.win 1).stg p0 (cfg0.slots p0 1)).view.emb i = i := by
  funext d; fin_cases d <;> apply Fin.ext <;> exact at_self rfl rfl _

theorem blk0_set : ((cfg0.win 0).blk p0).view.set = Finset.univ :=
  Finset.eq_univ_iff_forall.2 fun i => blk0_emb i ▸ View.emb_mem_set _ _

theorem blk1_set : ((cfg0.win 1).blk p0).view.set = Finset.univ :=
  Finset.eq_univ_iff_forall.2 fun i => blk1_emb i ▸ View.emb_mem_set _ _

theorem stg0_write (f : S6.Idx → Elt F .i32) (g : S6.Idx → Elt F .i32) :
    ((cfg0.win 0).stg p0 (cfg0.slots p0 0)).view.write (Elt F) f (((cfg0.win 0).blk p0).view.read (Elt F) g) Finset.univ = g := by
  funext i
  have h := View.write_emb_of_mem (v := ((cfg0.win 0).stg p0 (cfg0.slots p0 0)).view) (Val := Elt F) f
    (((cfg0.win 0).blk p0).view.read (Elt F) g) (Finset.mem_univ i)
  exact (congrArg (View.write (Elt F) ((cfg0.win 0).stg p0 (cfg0.slots p0 0)).view f
    (((cfg0.win 0).blk p0).view.read (Elt F) g) Finset.univ) (stg0_emb i).symm).trans (h.trans (congrArg g (blk0_emb i)))

theorem stg1_write (f : S8x8x4096.Idx → Elt F .f32) (g : S8x8x4096.Idx → Elt F .f32) :
    ((cfg0.win 1).stg p0 (cfg0.slots p0 1)).view.write (Elt F) f (((cfg0.win 1).blk p0).view.read (Elt F) g) Finset.univ = g := by
  funext i
  have h := View.write_emb_of_mem (v := ((cfg0.win 1).stg p0 (cfg0.slots p0 1)).view) (Val := Elt F) f
    (((cfg0.win 1).blk p0).view.read (Elt F) g) (Finset.mem_univ i)
  exact (congrArg (View.write (Elt F) ((cfg0.win 1).stg p0 (cfg0.slots p0 1)).view f
    (((cfg0.win 1).blk p0).view.read (Elt F) g) Finset.univ) (stg1_emb i).symm).trans (h.trans (congrArg g (blk1_emb i)))

/-- The windows' fetch: both staging buffers end with their arrays' contents. -/
theorem wp_fetch (c : Dev nD) (Rm : S6.Idx → Elt F .i32) (Zm : S8x8x4096.Idx → Elt F .f32) (f0 : S6.Idx → Elt F .i32)
    (f1 : S8x8x4096.Idx → Elt F .f32) (W : Waits sig Unit) (bd : Option (𝕍).V) (k : LProg F) (Q : PUnit → sProp 𝕄) :
    iprop(staged c Rm Zm f0 f1 ∗ owes (c.tc : Thread nD τ) 0 W)
      ⊢ iprop(((staged c Rm Zm Rm Zm ∗ ∃ W', owes (c.tc : Thread nD τ) 0 W') -∗ wpL c bd k Q)
        -∗ wpL c bd (.op (cfg0.startIn 0 p0) fun _ => .op (cfg0.startIn 1 p0) fun _ =>
            .op (cfg0.waitIn 0 p0) fun _ => .op (cfg0.waitIn 1 p0) fun _ => k) Q) := by
  iintro ⟨⟨Ha, Hz, Hs0, Hs1, Hv0, Hv1⟩, HO⟩ Hk
  iapply (wp_dmaLocal EC 𝕍 (c.tc : Thread nD τ) bd (src := (cfg0.win 0).blk p0) (dst := (cfg0.win 0).stg p0 (cfg0.slots p0 0))
    (q := fullShare) (fs := Rm) (Sd := Finset.univ) (fd := f0) () _ rfl (View.amount_pos _ _ (by decide)) (Finset.subset_univ _)) $$ [Ha Hs0 Hv0]
  · rw [blk0_set]
    isplitl [Ha]; · iexact Ha
    isplitl [Hs0]; · iexact Hs0
    iexact Hv0
  iintro Hf0
  iapply (wp_dmaLocal EC 𝕍 (c.tc : Thread nD τ) bd (src := (cfg0.win 1).blk p0) (dst := (cfg0.win 1).stg p0 (cfg0.slots p0 1))
    (q := fullShare) (fs := Zm) (Sd := Finset.univ) (fd := f1) () _ rfl (View.amount_pos _ _ (by decide)) (Finset.subset_univ _)) $$ [Hz Hs1 Hv1]
  · rw [blk1_set]
    isplitl [Hz]; · iexact Hz
    isplitl [Hs1]; · iexact Hs1
    iexact Hv1
  iintro Hf1
  iapply (wp_waitLocal EC 𝕍 (c.tc : Thread nD τ) bd (sem := stgSem 0) (srcw := (cfg0.win 0).blk p0) (dstw := (cfg0.win 0).stg p0 (cfg0.slots p0 0))
    (hsrc := (cfg0.win 0).wordExact_blk p0) (hdst := (cfg0.win 0).wordExact_stg p0 _) () rfl) $$ [Hf0 HO]
  · isplitl [Hf0] <;> iassumption
  iintro ⟨⟨Hs0, Ha⟩, Hv0, HO⟩
  iapply (wp_waitLocal EC 𝕍 (c.tc : Thread nD τ) bd (sem := stgSem 1) (srcw := (cfg0.win 1).blk p0) (dstw := (cfg0.win 1).stg p0 (cfg0.slots p0 1))
    (hsrc := (cfg0.win 1).wordExact_blk p0) (hdst := (cfg0.win 1).wordExact_stg p0 _) () rfl) $$ [Hf1 HO]
  · isplitl [Hf1] <;> iassumption
  iintro ⟨⟨Hs1, Hz⟩, Hv1, HO⟩
  iapply Hk
  isplitr [HO]
  · rw [blk0_set, blk1_set, stg0_write, stg1_write]
    isplitl [Ha]; · iexact Ha
    isplitl [Hz]; · iexact Hz
    isplitl [Hs0]; · iexact Hs0
    isplitl [Hs1]; · iexact Hs1
    isplitl [Hv0]; · iexact Hv0
    iexact Hv1
  · iexists _
    iexact HO

end Cert.Ring

end
-- ==== Proof.Clean.lean ====
/-
  The kernel's body at a grid point, in few words (`cleanBody`): what the printed program does, each copy and wait
  once, with the test whether an electrode is kept as one operation (`keptWord`). `body_eq` says the printed body is it.
-/
module

public import proofs.«01_k».proof.Proof.Gen.KernelIdeal.Skeleton

@[expose] public section

noncomputable section

namespace Cert.Ring

open Cert.KernelIdeal Cert.KernelIdeal.Gen
open Idealize.ShloMosaic Idealize.ShloMosaic.TcCoe Idealize.ShloMosaic.Tactic
open Idealize.SL.Sem

variable {F : FTy → Type} [FloatOps F]

/-- The body's programs. -/
abbrev BProg (F : FTy → Type) [FloatOps F] : Type → Type 1 := Prog (TpuEff nD τ sig (Elt F) Λ₀ .tc)

/-- The floor of `t / 8` as the program computes it. -/
def floorWord (t : BitVec 32) : BitVec 32 :=
  let q := Scalar.divsi t 8#32
  Scalar.select (Scalar.andi
      (Scalar.cmpi .ne (Scalar.subi (Scalar.extui (Scalar.cmpi .sgt t 0#32)) (Scalar.extui (Scalar.cmpi .slt t 0#32)))
        (Scalar.subi (Scalar.extui (Scalar.cmpi .sgt 8#32 0#32)) (Scalar.extui (Scalar.cmpi .slt 8#32 0#32))))
      (Scalar.cmpi .ne (Scalar.remsi t 8#32) 0#32))
    (Scalar.subi q 1#32) q

/-- One if electrode `e` is none of the six removed ones, else zero, as the program computes it. -/
def chainWord (e r0 r1 r2 r3 r4 r5 : BitVec 32) : BitVec 32 :=
  Scalar.muli (Scalar.muli (Scalar.muli (Scalar.muli (Scalar.muli (Scalar.muli 1#32
    (Scalar.extui (Scalar.cmpi .ne (Scalar.addi e 1#32) r0))) (Scalar.extui (Scalar.cmpi .ne (Scalar.addi e 1#32) r1)))
    (Scalar.extui (Scalar.cmpi .ne (Scalar.addi e 1#32) r2))) (Scalar.extui (Scalar.cmpi .ne (Scalar.addi e 1#32) r3)))
    (Scalar.extui (Scalar.cmpi .ne (Scalar.addi e 1#32) r4))) (Scalar.extui (Scalar.cmpi .ne (Scalar.addi e 1#32) r5))

/-- The test of a word against a constant, as the program branches on it. -/
def testWord (w v : BitVec 32) : BitVec 1 := Scalar.cmpi .ne (Scalar.extui (Scalar.cmpi .eq w v)) 0#32

/-- The number of the grid point as a word. -/
def pointWord (i : grid0.Coords) : BitVec 32 :=
  Scalar.addi (Scalar.muli (BitVec.ofNat 32 (i 0).val) 8#32) (BitVec.ofNat 32 (i 1).val)

/-- Reads the six removed electrodes and tests electrode `e` against them. -/
def keptWord (arg2 : Memref sig .tc .smem S6 .i32) (e : BitVec 32) : BProg F (BitVec 32) := do
  let r0 : Elt F .i32 ← smemLoad arg2 (Rect.unit (s := S6) ![0] S1.size inb_S6_S1_0) numel1_S1 rfl
  let r1 : Elt F .i32 ← smemLoad arg2 (Rect.unit (s := S6) ![1] S1.size inb_S6_S1_1) numel1_S1 rfl
  let r2 : Elt F .i32 ← smemLoad arg2 (Rect.unit (s := S6) ![2] S1.size inb_S6_S1_2) numel1_S1 rfl
  let r3 : Elt F .i32 ← smemLoad arg2 (Rect.unit (s := S6) ![3] S1.size inb_S6_S1_3) numel1_S1 rfl
  let r4 : Elt F .i32 ← smemLoad arg2 (Rect.unit (s := S6) ![4] S1.size inb_S6_S1_4) numel1_S1 rfl
  let r5 : Elt F .i32 ← smemLoad arg2 (Rect.unit (s := S6) ![5] S1.size inb_S6_S1_5) numel1_S1 rfl
  pure (chainWord e r0 r1 r2 r3 r4 r5)

/-- The semaphore at offset `o` of an array of twelve. -/
abbrev semAt (a : DmaSems sig S12) (o : Fin S12.rank → ℕ) (h : ∀ d, o d + S1.size d ≤ S12.size d) : DmaSem sig :=
  ((a.slice (Rect.unit (s := S12) o S1.size h)).squeeze S_ squeezes_S1_S_).sem

/-- The block at offset `o` of an array of blocks. -/
abbrev blockAt (a : Memref sig .tc .hbm S64x17x8x4096 .f32) (o : Fin S64x17x8x4096.rank → ℕ)
    (h : ∀ d, o d + S8x1x8x4096.size d ≤ S64x17x8x4096.size d) : Memref sig .tc .hbm S8x8x4096 .f32 :=
  (a.slice (Rect.unit (s := S64x17x8x4096) o S8x1x8x4096.size h) (fun _ => rfl)).squeeze S8x8x4096 squeezes_S8x1x8x4096_S8x8x4096

/-- The slot at offset `o` of the buffer. -/
abbrev slotAt (a : Memref sig .tc .vmem S12x8x8x4096 .f32) (o : Fin S12x8x8x4096.rank → ℕ)
    (h : ∀ d, o d + S1x8x8x4096.size d ≤ S12x8x8x4096.size d) : Memref sig .tc .vmem S8x8x4096 .f32 :=
  (a.slice (Rect.unit (s := S12x8x8x4096) o S1x8x8x4096.size h) (fun _ => rfl)).squeeze S8x8x4096 squeezes_S1x8x8x4096_S8x8x4096

/-- Starts a copy within the core's memories if `b` is set. -/
def copyIf {sp sp' : Space} (b : BitVec 1) (src : Memref sig .tc sp S8x8x4096 .f32) (dst : Memref sig .tc sp' S8x8x4096 .f32) (sem : DmaSem sig)
    (hs : src.view.WordExact) (hd : dst.view.WordExact) (ht : DmaTarget.Typed (nD := nD) (τ := τ) (p := .tc) sp (.dma sem) (.here dst)) : BProg F PUnit :=
  if b = 1#1 then do
    Prog.lift (.enqueueDma src (.here dst) (.dma sem) hs hd ht)
    pure ⟨⟩
  else do
    pure ⟨⟩

/-- Starts the copy of a block of the input into a slot if the block's electrode is kept. -/
def issueIn (arg2 : Memref sig .tc .smem S6 .i32) (t : BitVec 32) (sem : DmaSem sig) (slot : Memref sig .tc .vmem S8x8x4096 .f32)
    (block : Memref sig .tc .hbm S8x8x4096 .f32) (hs : slot.view.WordExact) (hb : block.view.WordExact) : BProg F PUnit := do
  let w ← keptWord arg2 (floorWord t)
  copyIf (testWord w 1#32) block slot sem hb hs ⟨Or.inl rfl, trivial⟩

/-- Waits for the copy into a slot if the block's electrode is kept. -/
def waitIn (arg2 : Memref sig .tc .smem S6 .i32) (t : BitVec 32) (sem : DmaSem sig) (slot : Memref sig .tc .vmem S8x8x4096 .f32)
    (block : Memref sig .tc .hbm S8x8x4096 .f32) (hs : slot.view.WordExact) (hb : block.view.WordExact) : BProg F PUnit := do
  let w ← keptWord arg2 (floorWord t)
  if testWord w 1#32 = 1#1 then do
    Prog.lift (.waitDma2 sem block slot hb hs)
    pure ⟨⟩
  else do
    pure ⟨⟩

/-- Starts the copy into a block of the output: of the slot if the block's electrode is kept, else of the zeros. -/
def issueOut (arg2 : Memref sig .tc .smem S6 .i32) (t : BitVec 32) (sem sem' : DmaSem sig) (slot zeros : Memref sig .tc .vmem S8x8x4096 .f32)
    (block block' : Memref sig .tc .hbm S8x8x4096 .f32) (hs : slot.view.WordExact) (hz : zeros.view.WordExact) (hb : block.view.WordExact)
    (hb' : block'.view.WordExact) : BProg F PUnit := do
  let w ← keptWord arg2 (floorWord t)
  copyIf (testWord w 1#32) slot block sem hs hb ⟨Or.inl rfl, trivial⟩
  copyIf (testWord w 0#32) zeros block' sem' hz hb' ⟨Or.inl rfl, trivial⟩

/-- Waits for the copy into a block of the output. -/
def waitOut (sem : DmaSem sig) (zeros : Memref sig .tc .vmem S8x8x4096 .f32) (block : Memref sig .tc .hbm S8x8x4096 .f32)
    (hz : zeros.view.WordExact) (hb : block.view.WordExact) : BProg F PUnit := do
  Prog.lift (.waitDma2 sem zeros block hz hb)
  pure ⟨⟩

section Body

variable (i : grid0.Coords) (arg2 : Memref sig .tc .smem S6 .i32) (harg2 : arg2.IsWhole) (arg3 : Memref sig .tc .vmem S8x8x4096 .f32) (harg3 : arg3.IsWhole)
  (arg4 : Memref sig .tc .hbm S64x17x8x4096 .f32) (harg4 : arg4.IsWhole) (arg5 : Memref sig .tc .hbm S64x17x8x4096 .f32) (harg5 : arg5.IsWhole)
  (arg6 : Memref sig .tc .vmem S12x8x8x4096 .f32) (harg6 : arg6.IsWhole) (arg7 arg8 : DmaSems sig S12)

/-- The first six copies in. -/
def firstSix (h : k0_cond1 i = 1#1) : BProg F PUnit := do
  issueIn arg2 0#32 (semAt arg7 k0_off1 (k0_off1_inb i h)) (slotAt arg6 k0_off2 (k0_off2_inb i h)) (blockAt arg4 k0_off3 (k0_off3_inb i h))
    ((View.wordExact_bits rfl).reshape _ _) ((View.wordExact_bits rfl).reshape _ _)
  issueIn arg2 1#32 (semAt arg7 k0_off4 (k0_off4_inb i h)) (slotAt arg6 k0_off5 (k0_off5_inb i h)) (blockAt arg4 k0_off6 (k0_off6_inb i h))
    ((View.wordExact_bits rfl).reshape _ _) ((View.wordExact_bits rfl).reshape _ _)
  issueIn arg2 2#32 (semAt arg7 k0_off7 (k0_off7_inb i h)) (slotAt arg6 k0_off8 (k0_off8_inb i h)) (blockAt arg4 k0_off9 (k0_off9_inb i h))
    ((View.wordExact_bits rfl).reshape _ _) ((View.wordExact_bits rfl).reshape _ _)
  issueIn arg2 3#32 (semAt arg7 k0_off10 (k0_off10_inb i h)) (slotAt arg6 k0_off11 (k0_off11_inb i h)) (blockAt arg4 k0_off12 (k0_off12_inb i h))
    ((View.wordExact_bits rfl).reshape _ _) ((View.wordExact_bits rfl).reshape _ _)
  issueIn arg2 4#32 (semAt arg7 k0_off13 (k0_off13_inb i h)) (slotAt arg6 k0_off14 (k0_off14_inb i h)) (blockAt arg4 k0_off15 (k0_off15_inb i h))
    ((View.wordExact_bits rfl).reshape _ _) ((View.wordExact_bits rfl).reshape _ _)
  issueIn arg2 5#32 (semAt arg7 k0_off16 (k0_off16_inb i h)) (slotAt arg6 k0_off17 (k0_off17_inb i h)) (blockAt arg4 k0_off18 (k0_off18_inb i h))
    ((View.wordExact_bits rfl).reshape _ _) ((View.wordExact_bits rfl).reshape _ _)

/-- The wait `d` points back at the end. -/
def drainOne (h : k0_cond14 i = 1#1) (d : Fin 6) : BProg F PUnit :=
  waitOut (semAt arg8 (k0_off31 i (BitVec.ofNat 32 d.1)) (k0_off31_inb i h d)) arg3 (blockAt arg5 (k0_off32 i (BitVec.ofNat 32 d.1)) (k0_off32_inb i h d))
    harg3.wordExact ((View.wordExact_bits rfl).reshape _ _)

/-- The last six waits. -/
def lastSix (h : k0_cond14 i = 1#1) : BProg F PUnit := do
  drainOne i arg3 harg3 arg5 arg8 h 0
  drainOne i arg3 harg3 arg5 arg8 h 1
  drainOne i arg3 harg3 arg5 arg8 h 2
  drainOne i arg3 harg3 arg5 arg8 h 3
  drainOne i arg3 harg3 arg5 arg8 h 4
  drainOne i arg3 harg3 arg5 arg8 h 5

/-- Runs `p` if the condition holds. -/
def onlyIf (b : BitVec 1) (p : b = 1#1 → BProg F PUnit) : BProg F PUnit := if h : b = 1#1 then p h else pure ⟨⟩

/-- The body at grid point `i`. -/
def cleanBody : BProg F PUnit := do
  onlyIf (k0_cond1 i) fun h => firstSix i arg2 arg4 arg6 arg7 h
  onlyIf (k0_cond8 i) fun h =>
    waitOut (semAt arg8 (k0_off19 i) (k0_off19_inb i h)) arg3 (blockAt arg5 (k0_off20 i) (k0_off20_inb i h))
      harg3.wordExact ((View.wordExact_bits rfl).reshape _ _)
  onlyIf (k0_cond9 i) fun h =>
    issueIn arg2 (Scalar.addi (pointWord i) 6#32) (semAt arg7 (k0_off21 i) (k0_off21_inb i h)) (slotAt arg6 (k0_off22 i) (k0_off22_inb i h))
      (blockAt arg4 (k0_off23 i) (k0_off23_inb i h)) ((View.wordExact_bits rfl).reshape _ _) ((View.wordExact_bits rfl).reshape _ _)
  waitIn arg2 (pointWord i) (semAt arg7 (k0_off24 i) (k0_off24_inb i)) (slotAt arg6 (k0_off25 i) (k0_off25_inb i))
    (blockAt arg4 ![0, 0, 0, 0] inb_S64x17x8x4096_S8x1x8x4096_0_0_0_0) ((View.wordExact_bits rfl).reshape _ _) ((View.wordExact_bits rfl).reshape _ _)
  issueOut arg2 (pointWord i) (semAt arg8 (k0_off26 i) (k0_off26_inb i)) (semAt arg8 (k0_off29 i) (k0_off29_inb i))
    (slotAt arg6 (k0_off28 i) (k0_off28_inb i)) arg3 (blockAt arg5 (k0_off27 i) (k0_off27_inb i)) (blockAt arg5 (k0_off30 i) (k0_off30_inb i))
    ((View.wordExact_bits rfl).reshape _ _) harg3.wordExact ((View.wordExact_bits rfl).reshape _ _) ((View.wordExact_bits rfl).reshape _ _)
  onlyIf (k0_cond14 i) fun h => lastSix i arg3 harg3 arg5 arg8 h

omit i arg2 arg3 arg4 arg5 arg6 arg7 arg8 in
/-- What follows either branch of a test follows the test. -/
theorem ite_then {α : Type} (p : Prop) [Decidable p] (x : BProg F PUnit) (r : BProg F α) :
    (if p then x >>= fun _ => r else r) = (if p then x else pure ⟨⟩) >>= fun _ => r := by
  by_cases h : p
  · rw [if_pos h, if_pos h]
  · rw [if_neg h, if_neg h, pure_bind]

omit i arg2 arg3 arg4 arg5 arg6 arg7 arg8 in
/-- The same of a test whose proof the first branch uses. -/
theorem dite_then {α : Type} (p : Prop) [Decidable p] (x : p → BProg F PUnit) (r : BProg F α) :
    (if h : p then x h >>= fun _ => r else r) = (if h : p then x h else pure ⟨⟩) >>= fun _ => r := by
  by_cases h : p
  · rw [dif_pos h, dif_pos h]
  · rw [dif_neg h, dif_neg h, pure_bind]

omit i arg2 arg3 arg4 arg5 arg6 arg7 arg8 in
/-- Two sequences are equal step by step. -/
theorem bind_step {α β : Type} {a b : BProg F α} {f g : α → BProg F β} (h : a = b) (hf : ∀ x, f x = g x) : (a >>= f) = (b >>= g) := by
  rw [h, funext hf]

set_option maxRecDepth 65536 in
/-- The printed body is it. -/
theorem body_eq : cc0_body (F := F) i arg2 harg2 arg3 harg3 arg4 harg4 arg5 harg5 arg6 harg6 arg7 arg8
    = cleanBody i arg2 arg3 harg3 arg4 arg5 arg6 arg7 arg8 := by
  by_cases h1 : k0_cond1 i = 1#1 <;> by_cases h9 : k0_cond9 i = 1#1 <;>
  simp only [cc0_body_eq_skeleton, cc0_body_skel, k0_part12_eq_skeleton, k0_part12_skel, k0_part13_eq_skeleton, k0_part13_skel,
    k0_part14_eq_skeleton, k0_part14_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel,
    cleanBody, onlyIf, copyIf, firstSix, lastSix, drainOne, issueIn, waitIn, issueOut, waitOut, keptWord, floorWord, chainWord, testWord,
    pointWord, semAt, slotAt, blockAt, h1, h9, dif_pos, dif_neg, not_false_eq_true, bind_assoc, pure_bind, bind_pure_unit, ite_then, dite_then] <;>
  repeat' (first | rfl | refine bind_step rfl fun _ => ?_)

end Body

end Cert.Ring

end
-- ==== Proof.Words.lean ====
/-
  The words the body computes, at grid point `t`: the conditions, the offsets of the blocks, slots and semaphores, the
  electrode of a block, and the test whether it is kept.
-/
module

public import proofs.«01_k».proof.Proof.Clean
public import proofs.«01_k».proof.Proof.Loop

@[expose] public section

noncomputable section

namespace Cert.Ring

open Cert.KernelIdeal Cert.KernelIdeal.Gen
open Idealize.ShloMosaic Idealize.ShloMosaic.TcCoe Idealize.ShloMosaic.Tactic

/-- The number of the grid point with coordinates `i`. -/
abbrev num (i : grid0.Coords) : ℕ := 8 * (i 0).val + (i 1).val

theorem num_coords : ∀ t : Fin 136, num (grid0.coords (pt t.1 t.2)) = t.1 := by decide +kernel

/-- The offset of job `t`'s semaphore: the semaphores are used in turn, twelve of them. -/
abbrev semOff (t : ℕ) : Fin S12.rank → ℕ := ![t % 12]
/-- The offset of job `t`'s slot of the buffer. -/
abbrev slotOff (t : ℕ) : Fin S12x8x8x4096.rank → ℕ := ![t % 12, 0, 0, 0]
/-- The offset of job `t`'s block: eight rows of one electrode. -/
abbrev blockOff (t : ℕ) : Fin S64x17x8x4096.rank → ℕ := ![8 * (t % 8), t / 8 % 17, 0, 0]

theorem semOff_inb (t : ℕ) : ∀ d, semOff t d + S1.size d ≤ S12.size d := by
  intro d; fin_cases d; show t % 12 + 1 ≤ 12; omega
theorem slotOff_inb (t : ℕ) : ∀ d, slotOff t d + S1x8x8x4096.size d ≤ S12x8x8x4096.size d := by
  intro d; fin_cases d
  · show t % 12 + 1 ≤ 12; omega
  all_goals exact Nat.le_refl _
theorem blockOff_inb (t : ℕ) : ∀ d, blockOff t d + S8x1x8x4096.size d ≤ S64x17x8x4096.size d := by
  intro d; fin_cases d
  · show 8 * (t % 8) + 8 ≤ 64; omega
  · show t / 8 % 17 + 1 ≤ 17; omega
  all_goals exact Nat.le_refl _

theorem cond1_iff : ∀ i : grid0.Coords, k0_cond1 i = 1#1 ↔ num i = 0 := by decide +kernel
theorem cond8_iff : ∀ i : grid0.Coords, k0_cond8 i = 1#1 ↔ 6 ≤ num i := by decide +kernel
theorem cond9_iff : ∀ i : grid0.Coords, k0_cond9 i = 1#1 ↔ num i + 6 < 136 := by decide +kernel
theorem cond14_iff : ∀ i : grid0.Coords, k0_cond14 i = 1#1 ↔ num i = 135 := by decide +kernel

theorem off19 : ∀ i : grid0.Coords, 6 ≤ num i → k0_off19 i = semOff (num i - 6) := by decide +kernel
theorem off20 : ∀ i : grid0.Coords, 6 ≤ num i → k0_off20 i = blockOff (num i - 6) := by decide +kernel
theorem off21 : ∀ i : grid0.Coords, k0_off21 i = semOff (num i + 6) := by decide +kernel
theorem off22 : ∀ i : grid0.Coords, k0_off22 i = slotOff (num i + 6) := by decide +kernel
theorem off23 : ∀ i : grid0.Coords, num i + 6 < 136 → k0_off23 i = blockOff (num i + 6) := by decide +kernel
theorem off24 : ∀ i : grid0.Coords, k0_off24 i = semOff (num i) := by decide +kernel
theorem off25 : ∀ i : grid0.Coords, k0_off25 i = slotOff (num i) := by decide +kernel
theorem off26 : ∀ i : grid0.Coords, k0_off26 i = semOff (num i) := by decide +kernel
theorem off27 : ∀ i : grid0.Coords, k0_off27 i = blockOff (num i) := by decide +kernel
theorem off28 : ∀ i : grid0.Coords, k0_off28 i = slotOff (num i) := by decide +kernel
theorem off29 : ∀ i : grid0.Coords, k0_off29 i = semOff (num i) := by decide +kernel
theorem off30 : ∀ i : grid0.Coords, k0_off30 i = blockOff (num i) := by decide +kernel
theorem off31 : ∀ i : grid0.Coords, num i = 135 → ∀ d : Fin 6, k0_off31 i (BitVec.ofNat 32 d.1) = semOff (135 - d.1) := by decide +kernel
theorem off32 : ∀ i : grid0.Coords, num i = 135 → ∀ d : Fin 6, k0_off32 i (BitVec.ofNat 32 d.1) = blockOff (135 - d.1) := by decide +kernel

theorem pointWord_eq : ∀ i : grid0.Coords, pointWord i = BitVec.ofNat 32 (num i) := by decide +kernel
theorem pointWord_add : ∀ i : grid0.Coords, Scalar.addi (pointWord i) 6#32 = BitVec.ofNat 32 (num i + 6) := by decide +kernel
theorem floorWord_eq : ∀ t : Fin 142, floorWord (BitVec.ofNat 32 t.1) = BitVec.ofNat 32 (t.1 / 8) := by decide +kernel

/-- A factor of the product: one if the test holds, and the product stays zero or one. -/
theorem muli_ne (p : Prop) [Decidable p] (a b : BitVec 32) :
    Scalar.muli (if p then 1#32 else 0#32) (Scalar.extui (Scalar.cmpi .ne a b)) = if p ∧ a ≠ b then 1#32 else 0#32 := by
  by_cases hp : p <;> by_cases hab : a = b
  all_goals simp [Scalar.muli, Scalar.extui, Scalar.cmpi, IntOp.muli, IntOp.cmpi, hp, hab]
  rw [show (a != b) = true by simpa using hab]; rfl

/-- The electrode is none of the six removed ones. -/
abbrev Kept (e : BitVec 32) (R : Fin 6 → BitVec 32) : Prop := ∀ j, Scalar.addi e 1#32 ≠ R j

theorem chainWord_eq (e : BitVec 32) (R : Fin 6 → BitVec 32) :
    chainWord e (R 0) (R 1) (R 2) (R 3) (R 4) (R 5) = if Kept e R then 1#32 else 0#32 := by
  unfold chainWord
  have h := muli_ne True (Scalar.addi e 1#32) (R 0)
  rw [if_pos trivial] at h
  rw [h, muli_ne, muli_ne, muli_ne, muli_ne, muli_ne]
  congr 1
  apply propext
  simp only [Kept, Fin.forall_fin_succ, true_and, and_assoc]
  simp

theorem test_kept (p : Prop) [Decidable p] : testWord (if p then 1#32 else 0#32) 1#32 = if p then 1#1 else 0#1 := by
  by_cases hp : p
  · rw [if_pos hp, if_pos hp]; decide
  · rw [if_neg hp, if_neg hp]; decide

theorem test_removed (p : Prop) [Decidable p] : testWord (if p then 1#32 else 0#32) 0#32 = if p then 0#1 else 1#1 := by
  by_cases hp : p
  · rw [if_pos hp, if_pos hp]; decide
  · rw [if_neg hp, if_neg hp]; decide

end Cert.Ring

end
-- ==== Proof.Jobs.lean ====
/-
  The body by job numbers. Job `t` moves block `t` of the input through slot `t % 12` of the buffer into block `t` of the
  output (or copies zeros there): `jobIn`, `jobWaitIn`, `jobOut`, `jobWaitOut`. `bodyAt_eq` says the body at grid point
  `t` is `ringBody t`.
-/
module

public import proofs.«01_k».proof.Proof.Region
public import proofs.«01_k».proof.Proof.Words

@[expose] public section

noncomputable section

namespace Cert.Ring

open Cert.KernelIdeal Cert.KernelIdeal.Gen
open Idealize.ShloMosaic Idealize.ShloMosaic.TcCoe Idealize.ShloMosaic.Tactic
open Idealize.SL.Sem

variable {F : FTy → Type} [FloatOps F]

/-- The removed electrodes as staged. -/
abbrev remM : Memref sig .tc .smem S6 .i32 := Memref.whole cc0_stg0_0
/-- The zeros as staged. -/
abbrev zeroM : Memref sig .tc .vmem S8x8x4096 .f32 := Memref.whole cc0_stg1_0
/-- The semaphore job `t` comes in on. -/
abbrev semI (t : ℕ) : DmaSem sig := semAt cc0_scratch1 (semOff t) (semOff_inb t)
/-- The semaphore job `t` goes out on. -/
abbrev semO (t : ℕ) : DmaSem sig := semAt cc0_scratch2 (semOff t) (semOff_inb t)
/-- The slot of job `t`. -/
abbrev slotM (t : ℕ) : Memref sig .tc .vmem S8x8x4096 .f32 := slotAt (Memref.whole cc0_scratch0) (slotOff t) (slotOff_inb t)
/-- Block `t` of the input. -/
abbrev inM (t : ℕ) : Memref sig .tc .hbm S8x8x4096 .f32 := blockAt (Memref.whole main_v0) (blockOff t) (blockOff_inb t)
/-- Block `t` of the output. -/
abbrev outM (t : ℕ) : Memref sig .tc .hbm S8x8x4096 .f32 := blockAt (Memref.whole main_v2) (blockOff t) (blockOff_inb t)

theorem slotM_exact (t : ℕ) : (slotM t).view.WordExact := (View.wordExact_bits rfl).reshape _ _
theorem inM_exact (t : ℕ) : (inM t).view.WordExact := (View.wordExact_bits rfl).reshape _ _
theorem outM_exact (t : ℕ) : (outM t).view.WordExact := (View.wordExact_bits rfl).reshape _ _
theorem zeroM_exact : zeroM.view.WordExact := (Memref.isWhole_whole cc0_stg1_0).wordExact

/-- The copy in. -/
def jobIn (t : ℕ) : BProg F PUnit := issueIn remM (BitVec.ofNat 32 t) (semI t) (slotM t) (inM t) (slotM_exact t) (inM_exact t)
/-- The wait for it (it names the first block; only the size matters). -/
def jobWaitIn (t : ℕ) : BProg F PUnit := waitIn remM (BitVec.ofNat 32 t) (semI t) (slotM t) (inM 0) (slotM_exact t) (inM_exact 0)
/-- The copy out. -/
def jobOut (t : ℕ) : BProg F PUnit :=
  issueOut remM (BitVec.ofNat 32 t) (semO t) (semO t) (slotM t) zeroM (outM t) (outM t) (slotM_exact t) zeroM_exact (outM_exact t) (outM_exact t)
/-- The wait for it. -/
def jobWaitOut (t : ℕ) : BProg F PUnit := waitOut (semO t) zeroM (outM t) zeroM_exact (outM_exact t)

/-- The first six jobs come in. -/
def startSix : BProg F PUnit := do
  jobIn 0
  jobIn 1
  jobIn 2
  jobIn 3
  jobIn 4
  jobIn 5

/-- The last six jobs are waited for. -/
def endSix : BProg F PUnit := do
  jobWaitOut 135
  jobWaitOut 134
  jobWaitOut 133
  jobWaitOut 132
  jobWaitOut 131
  jobWaitOut 130

/-- `p` if `b`. -/
def doIf (b : Prop) [Decidable b] (p : BProg F PUnit) : BProg F PUnit := if b then p else pure ⟨⟩

/-- The body at grid point `t`. -/
def ringBody (t : ℕ) : BProg F PUnit := do
  doIf (t = 0) startSix
  doIf (6 ≤ t) (jobWaitOut (t - 6))
  doIf (t + 6 < 136) (jobIn (t + 6))
  jobWaitIn t
  jobOut t
  doIf (t = 135) endSix

theorem onlyIf_eq {b : BitVec 1} {b' : Prop} [Decidable b'] (hb : b = 1#1 ↔ b') {p : b = 1#1 → BProg F PUnit} {p' : BProg F PUnit}
    (hp : ∀ h, p h = p') : onlyIf b p = doIf b' p' := by
  unfold onlyIf doIf
  by_cases h : b = 1#1
  · rw [dif_pos h, if_pos (hb.mp h), hp h]
  · rw [dif_neg h, if_neg (fun h' => h (hb.mpr h'))]

/-- Copies in at equal words and offsets are equal. -/
theorem issueIn_congr {w w' : BitVec 32} {o o' : Fin S12.rank → ℕ} {p p' : Fin S12x8x8x4096.rank → ℕ} {q q' : Fin S64x17x8x4096.rank → ℕ}
    {ho : ∀ d, o d + S1.size d ≤ S12.size d} {ho' : ∀ d, o' d + S1.size d ≤ S12.size d}
    {hp : ∀ d, p d + S1x8x8x4096.size d ≤ S12x8x8x4096.size d} {hp' : ∀ d, p' d + S1x8x8x4096.size d ≤ S12x8x8x4096.size d}
    {hq : ∀ d, q d + S8x1x8x4096.size d ≤ S64x17x8x4096.size d} {hq' : ∀ d, q' d + S8x1x8x4096.size d ≤ S64x17x8x4096.size d}
    {a b a' b'} (hw : w = w') (eo : o = o') (ep : p = p') (eq : q = q') :
    issueIn (F := F) remM w (semAt cc0_scratch1 o ho) (slotAt (Memref.whole cc0_scratch0) p hp) (blockAt (Memref.whole main_v0) q hq) a b
      = issueIn remM w' (semAt cc0_scratch1 o' ho') (slotAt (Memref.whole cc0_scratch0) p' hp') (blockAt (Memref.whole main_v0) q' hq') a' b' := by
  subst hw eo ep eq; rfl

theorem waitIn_congr {w w' : BitVec 32} {o o' : Fin S12.rank → ℕ} {p p' : Fin S12x8x8x4096.rank → ℕ} {q q' : Fin S64x17x8x4096.rank → ℕ}
    {ho : ∀ d, o d + S1.size d ≤ S12.size d} {ho' : ∀ d, o' d + S1.size d ≤ S12.size d}
    {hp : ∀ d, p d + S1x8x8x4096.size d ≤ S12x8x8x4096.size d} {hp' : ∀ d, p' d + S1x8x8x4096.size d ≤ S12x8x8x4096.size d}
    {hq : ∀ d, q d + S8x1x8x4096.size d ≤ S64x17x8x4096.size d} {hq' : ∀ d, q' d + S8x1x8x4096.size d ≤ S64x17x8x4096.size d}
    {a b a' b'} (hw : w = w') (eo : o = o') (ep : p = p') (eq : q = q') :
    waitIn (F := F) remM w (semAt cc0_scratch1 o ho) (slotAt (Memref.whole cc0_scratch0) p hp) (blockAt (Memref.whole main_v0) q hq) a b
      = waitIn remM w' (semAt cc0_scratch1 o' ho') (slotAt (Memref.whole cc0_scratch0) p' hp') (blockAt (Memref.whole main_v0) q' hq') a' b' := by
  subst hw eo ep eq; rfl

theorem issueOut_congr {w w' : BitVec 32} {o o₂ o' : Fin S12.rank → ℕ} {p p' : Fin S12x8x8x4096.rank → ℕ} {q q₂ q' : Fin S64x17x8x4096.rank → ℕ}
    {ho : ∀ d, o d + S1.size d ≤ S12.size d} {ho₂ : ∀ d, o₂ d + S1.size d ≤ S12.size d} {ho' : ∀ d, o' d + S1.size d ≤ S12.size d}
    {hp : ∀ d, p d + S1x8x8x4096.size d ≤ S12x8x8x4096.size d} {hp' : ∀ d, p' d + S1x8x8x4096.size d ≤ S12x8x8x4096.size d}
    {hq : ∀ d, q d + S8x1x8x4096.size d ≤ S64x17x8x4096.size d} {hq₂ : ∀ d, q₂ d + S8x1x8x4096.size d ≤ S64x17x8x4096.size d}
    {hq' : ∀ d, q' d + S8x1x8x4096.size d ≤ S64x17x8x4096.size d} {a b c d a' b' c' d'}
    (hw : w = w') (eo : o = o') (eo₂ : o₂ = o') (ep : p = p') (eq : q = q') (eq₂ : q₂ = q') :
    issueOut (F := F) remM w (semAt cc0_scratch2 o ho) (semAt cc0_scratch2 o₂ ho₂) (slotAt (Memref.whole cc0_scratch0) p hp) zeroM
        (blockAt (Memref.whole main_v2) q hq) (blockAt (Memref.whole main_v2) q₂ hq₂) a b c d
      = issueOut remM w' (semAt cc0_scratch2 o' ho') (semAt cc0_scratch2 o' ho') (slotAt (Memref.whole cc0_scratch0) p' hp') zeroM
        (blockAt (Memref.whole main_v2) q' hq') (blockAt (Memref.whole main_v2) q' hq') a' b' c' d' := by
  subst hw eo eo₂ ep eq eq₂; rfl

theorem waitOut_congr {o o' : Fin S12.rank → ℕ} {q q' : Fin S64x17x8x4096.rank → ℕ}
    {ho : ∀ d, o d + S1.size d ≤ S12.size d} {ho' : ∀ d, o' d + S1.size d ≤ S12.size d}
    {hq : ∀ d, q d + S8x1x8x4096.size d ≤ S64x17x8x4096.size d} {hq' : ∀ d, q' d + S8x1x8x4096.size d ≤ S64x17x8x4096.size d}
    {a b a' b'} (eo : o = o') (eq : q = q') :
    waitOut (F := F) (semAt cc0_scratch2 o ho) zeroM (blockAt (Memref.whole main_v2) q hq) a b
      = waitOut (semAt cc0_scratch2 o' ho') zeroM (blockAt (Memref.whole main_v2) q' hq') a' b' := by
  subst eo eq; rfl

theorem firstSix_eq (i : grid0.Coords) (h : k0_cond1 i = 1#1) :
    firstSix (F := F) i remM (Memref.whole main_v0) (Memref.whole cc0_scratch0) cc0_scratch1 h = startSix := by
  unfold firstSix startSix
  refine bind_step (issueIn_congr rfl (by decide) (by decide) (by decide)) fun _ => ?_
  refine bind_step (issueIn_congr rfl (by decide) (by decide) (by decide)) fun _ => ?_
  refine bind_step (issueIn_congr rfl (by decide) (by decide) (by decide)) fun _ => ?_
  refine bind_step (issueIn_congr rfl (by decide) (by decide) (by decide)) fun _ => ?_
  refine bind_step (issueIn_congr rfl (by decide) (by decide) (by decide)) fun _ => ?_
  exact issueIn_congr rfl (by decide) (by decide) (by decide)

theorem lastSix_eq (i : grid0.Coords) (h : k0_cond14 i = 1#1) :
    lastSix (F := F) i zeroM (Memref.isWhole_whole cc0_stg1_0) (Memref.whole main_v2) cc0_scratch2 h = endSix := by
  have hn := (cond14_iff i).mp h
  unfold lastSix endSix
  refine bind_step (waitOut_congr (off31 i hn 0) (off32 i hn 0)) fun _ => ?_
  refine bind_step (waitOut_congr (off31 i hn 1) (off32 i hn 1)) fun _ => ?_
  refine bind_step (waitOut_congr (off31 i hn 2) (off32 i hn 2)) fun _ => ?_
  refine bind_step (waitOut_congr (off31 i hn 3) (off32 i hn 3)) fun _ => ?_
  refine bind_step (waitOut_congr (off31 i hn 4) (off32 i hn 4)) fun _ => ?_
  exact waitOut_congr (off31 i hn 5) (off32 i hn 5)

theorem cleanBody_eq (i : grid0.Coords) :
    cleanBody (F := F) i remM zeroM (Memref.isWhole_whole cc0_stg1_0) (Memref.whole main_v0) (Memref.whole main_v2)
      (Memref.whole cc0_scratch0) cc0_scratch1 cc0_scratch2 = ringBody (num i) := by
  unfold cleanBody ringBody
  refine bind_step (onlyIf_eq (cond1_iff i) fun h => firstSix_eq i h) fun _ => ?_
  refine bind_step (onlyIf_eq (cond8_iff i) fun h => ?_) fun _ => ?_
  · have h' := (cond8_iff i).mp h
    exact waitOut_congr (off19 i h') (off20 i h')
  refine bind_step (onlyIf_eq (cond9_iff i) fun h => ?_) fun _ => ?_
  · have h' := (cond9_iff i).mp h
    exact issueIn_congr (pointWord_add i) (off21 i) (off22 i) (off23 i h')
  refine bind_step ?_ fun _ => ?_
  · exact waitIn_congr (pointWord_eq i) (off24 i) (off25 i) (by decide)
  refine bind_step ?_ fun _ => ?_
  · exact issueOut_congr (pointWord_eq i) (off26 i) (off29 i) (off28 i) (off27 i) (off30 i)
  exact onlyIf_eq (cond14_iff i) fun h => lastSix_eq i h

/-- The body over the staging buffers: each window has one. -/
theorem staged_eq (i : grid0.Coords) : ∀ j j' : Fin 1,
    cc0_body (F := F) i (stage0_0 j) (hstage0_0 j) (stage0_1 j') (hstage0_1 j') (Memref.whole main_v0) (Memref.isWhole_whole _)
        (Memref.whole main_v2) (Memref.isWhole_whole _) (Memref.whole cc0_scratch0) (Memref.isWhole_whole _) cc0_scratch1 cc0_scratch2
      = ringBody (num i)
  | 0, 0 => (body_eq i remM (Memref.isWhole_whole _) zeroM (Memref.isWhole_whole _) (Memref.whole main_v0) (Memref.isWhole_whole _)
      (Memref.whole main_v2) (Memref.isWhole_whole _) (Memref.whole cc0_scratch0) (Memref.isWhole_whole _) cc0_scratch1 cc0_scratch2).trans
      (cleanBody_eq i)

/-- The body at grid point `t` is the ring's. -/
theorem bodyAt_eq (t : ℕ) (h : t < 136) : bodyAt (F := F) t h = ringBody t := by
  have e : bodyAt (F := F) t h = ringBody (num (grid0.coords (pt t h))) :=
    staged_eq (grid0.coords (pt t h)) ((cfg0.slots (pt t h) 0).cast nbuf0_0) ((cfg0.slots (pt t h) 1).cast nbuf0_1)
  rw [e, num_coords ⟨t, h⟩]

end Cert.Ring

end
-- ==== Proof.Ring.lean ====
/-
  The ring's copies and waits, one at a time: the states a job goes through (`Waiting`, `Coming`, `Here`, `Going`,
  `Done`), and for each operation on job `t` the step from one state to the next. `X` is the input's array, `O` what the
  output's array holds first, `z` the value the array of zeros is filled with.
-/
module

public import proofs.«01_k».proof.Proof.Jobs

@[expose] public section

noncomputable section

namespace Cert.Ring

open Cert.KernelIdeal Cert.KernelIdeal.Gen
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a program of the body on core `c`. -/
abbrev wpB (c : Dev nD) {α : Type} (p : BProg F α) (Q : α → sProp 𝕄) : sProp 𝕄 :=
  wp frame (wpE (defs₀ (F := F)) Variants.none (c.tc : Thread nD τ) none) Set.univ p Q

theorem wpB_ret (c : Dev nD) {α : Type} (x : α) (Q : α → sProp 𝕄) : Q x ⊢ wpB c (Prog.ret x : BProg F α) Q := fupd_intro

theorem wpB_pure (c : Dev nD) {α : Type} (x : α) (Q : α → sProp 𝕄) : Q x ⊢ wpB c (pure x : BProg F α) Q := fupd_intro

theorem wpB_bind (c : Dev nD) {α β : Type} (p : BProg F α) (k : α → BProg F β) (Q : β → sProp 𝕄) :
    wpB c p (fun x => wpB c (k x) Q) ⊢ wpB c (p >>= k) Q := Entails.of_eq (wp_bind ..).symm

variable (c : Dev nD) (Rm : S6.Idx → BitVec 32) (X O : S64x17x8x4096.Idx → F .f32) (z : F .f32)

/-- Where the `j`-th removed electrode stands. -/
abbrev remIx (j : Fin 6) : S6.Idx := fun d => ⟨j.1, lt_of_lt_of_eq j.2 (by fin_cases d; rfl)⟩

/-- Block `t`'s electrode is kept. -/
abbrev Keep (t : ℕ) : Prop := Kept (BitVec.ofNat 32 (t / 8)) fun j => Rm (remIx j)

/-- The staged removed electrodes. -/
def RemPt : sProp 𝕄 := remM.view.loc (c.tc : Thread nD τ) ↦{fullShare} (Rm : Buf (Elt F) (remM.view.loc (c.tc : Thread nD τ)))

/-- One of the twelve shares of the staged zeros. -/
def ZeroTok (t : ℕ) : sProp 𝕄 :=
  zeroM.view.loc (c.tc : Thread nD τ) ↦{shareTokN fullShare (t % 12)} ((fun _ => z : S8x8x4096.Idx → F .f32) : Buf (Elt F) (zeroM.view.loc (c.tc : Thread nD τ)))

/-- Block `t` of the input. -/
def InPt (t : ℕ) : sProp 𝕄 :=
  (inM t).view.loc (c.tc : Thread nD τ) ↦[(inM t).view.set]{fullShare} (X : Buf (Elt F) ((inM t).view.loc (c.tc : Thread nD τ)))

/-- Block `t` of the output with the contents `G`. -/
def OutPt (G : S64x17x8x4096.Idx → F .f32) (t : ℕ) : sProp 𝕄 :=
  (outM t).view.loc (c.tc : Thread nD τ) ↦[(outM t).view.set]{fullShare} (G : Buf (Elt F) ((outM t).view.loc (c.tc : Thread nD τ)))

/-- Job `t`'s slot, with contents `g`. -/
def SlotPt (t : ℕ) (g : S12x8x8x4096.Idx → F .f32) : sProp 𝕄 :=
  (slotM t).view.loc (c.tc : Thread nD τ) ↦[(slotM t).view.set]{fullShare} (g : Buf (Elt F) ((slotM t).view.loc (c.tc : Thread nD τ)))

/-- Job `t`'s slot holds the block. -/
def SlotFull (t : ℕ) : sProp 𝕄 :=
  iprop(∃ g, ⌜(slotM t).view.read (Elt F) (g : S12x8x8x4096.Idx → F .f32) = (inM t).view.read (Elt F) X⌝ ∗ SlotPt c t g)

/-- Job `t`'s slot, whatever it holds. -/
def SlotAny (t : ℕ) : sProp 𝕄 := iprop(∃ g, SlotPt (F := F) c t g)

/-- Job `t`'s semaphore in, at zero. -/
def InSem (t : ℕ) : sProp 𝕄 := semVal ((c.tc : Thread nD τ), .dma (semI t)) 0
/-- Job `t`'s semaphore out, at zero. -/
def OutSem (t : ℕ) : sProp 𝕄 := semVal ((c.tc : Thread nD τ), .dma (semO t)) 0

/-- What the output holds at last: the input where the electrode is kept, else the zero. -/
def final (i : S64x17x8x4096.Idx) : F .f32 := if Kept (BitVec.ofNat 32 (i 1).1) (fun j => Rm (remIx j)) then X i else z

/-- A free slot: its elements, its two semaphores at zero and its share of the zeros. -/
def Free (t : ℕ) : sProp 𝕄 := iprop(SlotAny (F := F) c t ∗ InSem (F := F) c t ∗ OutSem (F := F) c t ∗ ZeroTok c z t)

/-- A job not begun. -/
def Waiting (t : ℕ) : sProp 𝕄 := iprop(InPt c X t ∗ OutPt c O t)

/-- A job whose copy in has begun. -/
def Coming (t : ℕ) : sProp 𝕄 :=
  if Keep Rm t then
    iprop(Flight EC (c.tc : Thread nD τ) (.dma (semI t)) () (slotM t).view.dmaCredit iprop(SlotFull c X t ∗ InPt c X t)
      ∗ OutSem (F := F) c t ∗ ZeroTok c z t ∗ OutPt c O t)
  else iprop(Free c z t ∗ Waiting c X O t)

/-- A job whose copy in has ended. -/
def Here (t : ℕ) : sProp 𝕄 :=
  if Keep Rm t then
    iprop(SlotFull c X t ∗ InPt c X t ∗ InSem (F := F) c t ∗ OutSem (F := F) c t ∗ ZeroTok c z t ∗ OutPt c O t)
  else iprop(Free c z t ∗ Waiting c X O t)

/-- A job whose copy out has begun. -/
def Going (t : ℕ) : sProp 𝕄 :=
  if Keep Rm t then
    iprop(Flight EC (c.tc : Thread nD τ) (.dma (semO t)) () (outM t).view.dmaCredit iprop(OutPt c (final Rm X z) t ∗ SlotAny (F := F) c t)
      ∗ InSem (F := F) c t ∗ ZeroTok c z t ∗ InPt c X t)
  else
    iprop(Flight EC (c.tc : Thread nD τ) (.dma (semO t)) () (outM t).view.dmaCredit iprop(OutPt c (final Rm X z) t ∗ ZeroTok c z t)
      ∗ InSem (F := F) c t ∗ SlotAny (F := F) c t ∗ InPt c X t)

/-- A finished job. -/
def Done (t : ℕ) : sProp 𝕄 := iprop(InPt c X t ∗ OutPt c (final Rm X z) t)

/-- Nothing owed by the core, whatever it has waited on. -/
def Owes : sProp 𝕄 := iprop(∃ W, owes (c.tc : Thread nD τ) 0 W)

/-- One of the removed electrodes is read. -/
theorem wp_readRem (j : Fin 6) (h : ∀ d, ![j.1] d + S1.size d ≤ S6.size d) (Q : BitVec 32 → sProp 𝕄) :
    RemPt (F := F) c Rm ⊢ (RemPt (F := F) c Rm -∗ Q (Rm (remIx j)))
      -∗ wpB c (smemLoad remM (Rect.unit (s := S6) ![j.1] S1.size h) numel1_S1 rfl : BProg F (Elt F .i32)) Q := by
  have e : ∀ x, (remM.access (Rect.unit (s := S6) ![j.1] S1.size h)).read (Elt F) (Rm : Buf (Elt F) (remM.view.loc (c.tc : Thread nD τ))) x = Rm (remIx j) := by
    intro x
    refine congrArg Rm (funext fun d => ?_)
    fin_cases d
    apply Fin.ext
    show j.1 + 1 * (x 0).1 = j.1
    have : (x 0).1 < 1 := (x 0).2
    omega
  unfold RemPt smemLoad
  iintro Hr Hk
  iapply (wp_smemLoadElt Variants.none (c.tc : Thread nD τ) none Set.univ (m := remM) (r := Rect.unit (s := S6) ![j.1] S1.size h)
    (k := Prog.ret) (S := Finset.univ) (Finset.subset_univ _)) $$ Hr
  iintro Hr
  ispecialize Hk $$ Hr
  iapply wpB_ret
  rw [e]
  iexact Hk

/-- The test of an electrode: one if it is kept, else zero. -/
theorem wp_keptWord (e : BitVec 32) (Q : BitVec 32 → sProp 𝕄) :
    RemPt (F := F) c Rm ⊢ (RemPt (F := F) c Rm -∗ Q (if Kept e (fun j => Rm (remIx j)) then 1#32 else 0#32)) -∗ wpB c (keptWord (F := F) remM e) Q := by
  unfold keptWord
  iintro Hr Hk
  iapply wpB_bind
  iapply (wp_readRem c Rm 0) $$ Hr
  iintro Hr
  iapply wpB_bind
  iapply (wp_readRem c Rm 1) $$ Hr
  iintro Hr
  iapply wpB_bind
  iapply (wp_readRem c Rm 2) $$ Hr
  iintro Hr
  iapply wpB_bind
  iapply (wp_readRem c Rm 3) $$ Hr
  iintro Hr
  iapply wpB_bind
  iapply (wp_readRem c Rm 4) $$ Hr
  iintro Hr
  iapply wpB_bind
  iapply (wp_readRem c Rm 5) $$ Hr
  iintro Hr
  ispecialize Hk $$ Hr
  iapply wpB_pure
  rw [← chainWord_eq]
  iexact Hk

theorem wp_if_yes {b : BitVec 1} (hb : b = 1#1) {p p' : BProg F PUnit} {Q : PUnit → sProp 𝕄} :
    wpB c p Q ⊢ wpB c (if b = 1#1 then p else p') Q := by rw [if_pos hb]
theorem wp_if_no {b : BitVec 1} (hb : b ≠ 1#1) {p p' : BProg F PUnit} {Q : PUnit → sProp 𝕄} :
    wpB c p' Q ⊢ wpB c (if b = 1#1 then p else p') Q := by rw [if_neg hb]

theorem wp_copyIf_no {sp sp' : Space} {b : BitVec 1} (hb : b ≠ 1#1) {src : Memref sig .tc sp S8x8x4096 .f32}
    {dst : Memref sig .tc sp' S8x8x4096 .f32} {sem : DmaSem sig} {hs hd ht} (Q : PUnit → sProp 𝕄) :
    Q ⟨⟩ ⊢ wpB c (copyIf (F := F) b src dst sem hs hd ht) Q := by
  unfold copyIf
  rw [if_neg hb]
  exact wpB_pure c _ Q

/-- A copy begun: its flight delivers what holds once the destination is written. -/
theorem wp_copyIf_yes {sp sp' : Space} {b : BitVec 1} (hb : b = 1#1) {src : Memref sig .tc sp S8x8x4096 .f32}
    {dst : Memref sig .tc sp' S8x8x4096 .f32} {sem : DmaSem sig} {hs hd ht} (Q : PUnit → sProp 𝕄)
    {q : PosShare TreeShare} {fs : Buf (Elt F) (src.view.loc (c.tc : Thread nD τ))} {fd : Buf (Elt F) (dst.view.loc (c.tc : Thread nD τ))}
    {D : sProp 𝕄}
    (hD : iprop((dst.view.loc (c.tc : Thread nD τ) ↦[dst.view.set]{fullShare} (dst.view.write (Elt F) fd (src.view.read (Elt F) fs) Finset.univ))
        ∗ (src.view.loc (c.tc : Thread nD τ) ↦[src.view.set]{q} fs)) ⊢ D) :
    iprop((src.view.loc (c.tc : Thread nD τ) ↦[src.view.set]{q} fs) ∗ (dst.view.loc (c.tc : Thread nD τ) ↦[dst.view.set]{fullShare} fd)
        ∗ semVal ((c.tc : Thread nD τ), .dma sem) 0)
      ⊢ (Flight EC (c.tc : Thread nD τ) (.dma sem) () dst.view.dmaCredit D -∗ Q ⟨⟩) -∗ wpB c (copyIf (F := F) b src dst sem hs hd ht) Q := by
  unfold copyIf
  rw [if_pos hb]
  iintro H Hk
  iapply (wp_dmaLocal EC Variants.none (c.tc : Thread nD τ) none (src := src) (dst := dst) (q := q) (fs := fs) (Sd := dst.view.set) (fd := fd)
    () dst.view.dmaCredit rfl (dst.view.dmaCredit_pos (by decide)) (Finset.Subset.refl _)) $$ H
  iintro HF
  iapply wpB_pure
  iapply Hk
  iapply (Flight_mono EC (c.tc : Thread nD τ) hD) $$ HF

/-- The electrode's word. -/
theorem floor_job {t : ℕ} (h : t < 136) : floorWord (BitVec.ofNat 32 t) = BitVec.ofNat 32 (t / 8) := floorWord_eq ⟨t, by omega⟩

theorem test_yes {p : Prop} [Decidable p] (hp : p) : testWord (if p then 1#32 else 0#32) 1#32 = 1#1 := by rw [test_kept, if_pos hp]
theorem test_no {p : Prop} [Decidable p] (hp : ¬p) : testWord (if p then 1#32 else 0#32) 1#32 ≠ 1#1 := by rw [test_kept, if_neg hp]; decide
theorem test_yes' {p : Prop} [Decidable p] (hp : p) : testWord (if p then 1#32 else 0#32) 0#32 ≠ 1#1 := by rw [test_removed, if_pos hp]; decide
theorem test_no' {p : Prop} [Decidable p] (hp : ¬p) : testWord (if p then 1#32 else 0#32) 0#32 = 1#1 := by rw [test_removed, if_neg hp]

/-- The copy in of a job takes it from waiting, with its slot free, to coming. -/
theorem wp_jobIn {t : ℕ} (h : t < 136) (Q : PUnit → sProp 𝕄) :
    iprop(RemPt (F := F) c Rm ∗ Waiting c X O t ∗ Free c z t)
      ⊢ (RemPt (F := F) c Rm ∗ Coming c Rm X O z t -∗ Q ⟨⟩) -∗ wpB c (jobIn (F := F) t) Q := by
  unfold jobIn issueIn Coming
  rw [floor_job h]
  by_cases hp : Keep Rm t
  · rw [if_pos hp]
    iintro ⟨Hr, Hw, Hf⟩ Hk
    iapply wpB_bind
    iapply (wp_keptWord c Rm) $$ Hr
    iintro Hr
    unfold Free Waiting SlotAny SlotPt InPt InSem
    icases Hw with ⟨Hx, Ho⟩
    icases Hf with ⟨⟨%g, Hg⟩, Hi, Hs, Hz⟩
    iapply (wp_copyIf_yes c (test_yes hp) Q (D := iprop(SlotFull c X t ∗ InPt c X t)) (q := fullShare) (fs := X) (fd := g) ?_) $$ [Hx Hg Hi]
    · unfold SlotFull SlotPt InPt
      iintro ⟨Hg, Hx⟩
      isplitl [Hg]
      · iexists ((slotM t).view.write (Elt F) g ((inM t).view.read (Elt F) X) Finset.univ)
        isplitr
        · ipureintro; exact View.read_write_univ _ _
        · iexact Hg
      · iexact Hx
    · isplitl [Hx]; · iexact Hx
      isplitl [Hg]; · iexact Hg
      iexact Hi
    · iintro HF
      iapply Hk
      isplitl [Hr]; · iexact Hr
      isplitl [HF]; · iexact HF
      isplitl [Hs]; · iexact Hs
      isplitl [Hz]; · iexact Hz
      iexact Ho
  · rw [if_neg hp]
    iintro ⟨Hr, Hw, Hf⟩ Hk
    iapply wpB_bind
    iapply (wp_keptWord c Rm) $$ Hr
    iintro Hr
    iapply (wp_copyIf_no c (test_no hp))
    iapply Hk
    isplitl [Hr]; · iexact Hr
    isplitl [Hf]; · iexact Hf
    iexact Hw

/-- A wait for a flight of the core's own. -/
theorem wp_landed {sp sp' : Space} {sem : DmaSem sig} {src : Memref sig .tc sp S8x8x4096 .f32} {dst : Memref sig .tc sp' S8x8x4096 .f32} {hs hd}
    {D : sProp 𝕄} (Q : PUnit → sProp 𝕄) :
    iprop(Flight EC (c.tc : Thread nD τ) (.dma sem) () dst.view.dmaCredit D ∗ Owes (F := F) c)
      ⊢ (D ∗ semVal ((c.tc : Thread nD τ), .dma sem) 0 ∗ Owes (F := F) c -∗ Q ⟨⟩)
        -∗ wpB c (Prog.lift (.waitDma2 sem src dst hs hd) >>= fun _ => pure ⟨⟩ : BProg F PUnit) Q := by
  unfold Owes
  iintro ⟨HF, ⟨%W, HO⟩⟩ Hk
  iapply (wp_waitLocal EC Variants.none (c.tc : Thread nD τ) none (sem := sem) (srcw := src) (dstw := dst) (hsrc := hs) (hdst := hd) ()
    (N := dst.view.dmaCredit) rfl) $$ [HF HO]
  · isplitl [HF]; · iexact HF
    iexact HO
  iintro ⟨HD, Hv, HO⟩
  iapply wpB_pure
  iapply Hk
  isplitl [HD]; · iexact HD
  isplitl [Hv]; · iexact Hv
  iexists _
  iexact HO

/-- The wait for a job's copy in takes it from coming to here. -/
theorem wp_jobWaitIn {t : ℕ} (h : t < 136) (Q : PUnit → sProp 𝕄) :
    iprop(RemPt (F := F) c Rm ∗ Coming c Rm X O z t ∗ Owes (F := F) c)
      ⊢ (RemPt (F := F) c Rm ∗ Here c Rm X O z t ∗ Owes (F := F) c -∗ Q ⟨⟩) -∗ wpB c (jobWaitIn (F := F) t) Q := by
  unfold jobWaitIn waitIn Coming Here
  rw [floor_job h]
  by_cases hp : Keep Rm t
  · rw [if_pos hp, if_pos hp]
    iintro ⟨Hr, Hw, HO⟩ Hk
    iapply wpB_bind
    iapply (wp_keptWord c Rm) $$ Hr
    iintro Hr
    icases Hw with ⟨HF, Hrest⟩
    iapply (wp_if_yes c (test_yes hp))
    iapply (wp_landed c Q) $$ [HF HO]
    · isplitl [HF]; · iexact HF
      iexact HO
    unfold InSem
    iintro ⟨⟨Hs, Hx⟩, Hv, HO⟩
    iapply Hk
    isplitl [Hr]; · iexact Hr
    isplitl [Hs Hx Hv Hrest]
    · isplitl [Hs]; · iexact Hs
      isplitl [Hx]; · iexact Hx
      isplitl [Hv]; · iexact Hv
      iexact Hrest
    iexact HO
  · rw [if_neg hp, if_neg hp]
    iintro ⟨Hr, Hw, HO⟩ Hk
    iapply wpB_bind
    iapply (wp_keptWord c Rm) $$ Hr
    iintro Hr
    iapply (wp_if_no c (test_no hp))
    iapply wpB_pure
    iapply Hk
    isplitl [Hr]; · iexact Hr
    isplitl [Hw]; · iexact Hw
    iexact HO

/-- The electrode of an element of block `t` of an array of blocks. -/
theorem out_electrode {t : ℕ} (h : t < 136) (x : S8x8x4096.Idx) : (((outM t).view.emb x) 1).1 = t / 8 := by
  have hy : ∀ y : S8x1x8x4096.Idx, (((Rect.unit (s := S64x17x8x4096) (blockOff t) S8x1x8x4096.size (blockOff_inb t)).emb y) 1).1 = t / 8 := by
    intro y
    show t / 8 % 17 + 1 * (y 1).1 = t / 8
    have h1 : (y 1).1 < 1 := (y 1).2
    omega
  exact hy _

/-- The output's block is final once the input's block has been copied into it, for an electrode that is kept; -/
theorem final_of_kept {t : ℕ} (h : t < 136) (hp : Keep Rm t) (f : S64x17x8x4096.Idx → F .f32) (i : S64x17x8x4096.Idx) (hi : i ∈ (outM t).view.set) :
    (outM t).view.write (Elt F) f ((inM t).view.read (Elt F) X) Finset.univ i = final Rm X z i := by
  obtain ⟨x, -, rfl⟩ := Finset.mem_map.mp hi
  refine (View.write_emb_of_mem _ _ (Finset.mem_univ x)).trans ?_
  unfold final
  rw [if_pos (by rw [out_electrode h]; exact hp)]
  rfl

/-- and once zeros have, for one that is removed. -/
theorem final_of_removed {t : ℕ} (h : t < 136) (hp : ¬Keep Rm t) (f : S64x17x8x4096.Idx → F .f32) (i : S64x17x8x4096.Idx) (hi : i ∈ (outM t).view.set) :
    (outM t).view.write (Elt F) f (zeroM.view.read (Elt F) (fun _ => z : S8x8x4096.Idx → F .f32)) Finset.univ i = final Rm X z i := by
  obtain ⟨x, -, rfl⟩ := Finset.mem_map.mp hi
  refine (View.write_emb_of_mem _ _ (Finset.mem_univ x)).trans ?_
  unfold final
  rw [if_neg (by rw [out_electrode h]; exact hp)]
  rfl

/-- The share of the zeros is of all their elements. -/
theorem zero_set (t : ℕ) :
    (zeroM.view.loc (c.tc : Thread nD τ) ↦{shareTokN fullShare (t % 12)} ((fun _ => z : S8x8x4096.Idx → F .f32) : Buf (Elt F) (zeroM.view.loc (c.tc : Thread nD τ))) : sProp 𝕄)
      = (zeroM.view.loc (c.tc : Thread nD τ) ↦[zeroM.view.set]{shareTokN fullShare (t % 12)} ((fun _ => z : S8x8x4096.Idx → F .f32) : Buf (Elt F) (zeroM.view.loc (c.tc : Thread nD τ)))) := by
  rw [show zeroM.view.set = Finset.univ from View.set_whole _]

/-- The copy out of a job takes it from here to going. -/
theorem wp_jobOut {t : ℕ} (h : t < 136) (Q : PUnit → sProp 𝕄) :
    iprop(RemPt (F := F) c Rm ∗ Here c Rm X O z t)
      ⊢ (RemPt (F := F) c Rm ∗ Going c Rm X z t -∗ Q ⟨⟩) -∗ wpB c (jobOut (F := F) t) Q := by
  unfold jobOut issueOut Here Going
  rw [floor_job h]
  by_cases hp : Keep Rm t
  · rw [if_pos hp, if_pos hp]
    iintro ⟨Hr, Hw⟩ Hk
    iapply wpB_bind
    iapply (wp_keptWord c Rm) $$ Hr
    iintro Hr
    iapply wpB_bind
    unfold SlotFull SlotPt OutSem OutPt
    icases Hw with ⟨⟨%g, %hg, Hg⟩, Hx, Hi, Hs, Hz, Ho⟩
    iapply (wp_copyIf_yes c (test_yes hp) _ (D := iprop(OutPt c (final Rm X z) t ∗ SlotAny (F := F) c t)) (q := fullShare) (fs := g) (fd := O) ?_) $$ [Ho Hg Hs]
    · unfold OutPt SlotAny SlotPt
      iintro ⟨Ho, Hg⟩
      isplitl [Ho]
      · ihave Ho := (Entails.of_eq (congrArg (fun w => ((outM t).view.loc (c.tc : Thread nD τ) ↦[(outM t).view.set]{fullShare}
          (outM t).view.write (Elt F) O w Finset.univ : sProp 𝕄)) hg)) $$ Ho
        iapply (Entails.of_eq (pointsTo_congr fun i hi => final_of_kept Rm X z h hp O i hi)) $$ Ho
      · iexists g; iexact Hg
    · isplitl [Hg]; · iexact Hg
      isplitl [Ho]; · iexact Ho
      iexact Hs
    · iintro HF
      iapply (wp_copyIf_no c (test_yes' hp))
      iapply Hk
      isplitl [Hr]; · iexact Hr
      isplitl [HF]; · iexact HF
      isplitl [Hi]; · iexact Hi
      isplitl [Hz]; · iexact Hz
      iexact Hx
  · rw [if_neg hp, if_neg hp]
    iintro ⟨Hr, Hw⟩ Hk
    iapply wpB_bind
    iapply (wp_keptWord c Rm) $$ Hr
    iintro Hr
    iapply wpB_bind
    iapply (wp_copyIf_no c (test_no hp))
    unfold Free Waiting OutSem OutPt ZeroTok
    icases Hw with ⟨⟨Hg, Hi, Hs, Hz⟩, Hx, Ho⟩
    iapply (wp_copyIf_yes c (test_no' hp) _ (D := iprop(OutPt c (final Rm X z) t ∗ ZeroTok c z t)) (q := shareTokN fullShare (t % 12))
      (fs := (fun _ => z : S8x8x4096.Idx → F .f32)) (fd := O) ?_) $$ [Ho Hz Hs]
    · unfold OutPt ZeroTok
      iintro ⟨Ho, Hz⟩
      isplitl [Ho]
      · iapply (Entails.of_eq (pointsTo_congr fun i hi => final_of_removed Rm X z h hp O i hi)) $$ Ho
      · iapply (Entails.of_eq (zero_set c z t).symm) $$ Hz
    · isplitl [Hz]; · iapply (Entails.of_eq (zero_set c z t)) $$ Hz
      isplitl [Ho]; · iexact Ho
      iexact Hs
    · iintro HF
      iapply Hk
      isplitl [Hr]; · iexact Hr
      isplitl [HF]; · iexact HF
      isplitl [Hi]; · iexact Hi
      isplitl [Hg]; · iexact Hg
      iexact Hx

/-- The wait for a job's copy out takes it from going to done, its slot free. -/
theorem wp_jobWaitOut {t : ℕ} (Q : PUnit → sProp 𝕄) :
    iprop(Going c Rm X z t ∗ Owes (F := F) c)
      ⊢ (Done c Rm X z t ∗ Free c z t ∗ Owes (F := F) c -∗ Q ⟨⟩) -∗ wpB c (jobWaitOut (F := F) t) Q := by
  unfold jobWaitOut waitOut Going Done Free OutSem
  by_cases hp : Keep Rm t
  · rw [if_pos hp]
    iintro ⟨Hw, HO⟩ Hk
    icases Hw with ⟨HF, Hi, Hz, Hx⟩
    iapply (wp_landed c Q) $$ [HF HO]
    · isplitl [HF]; · iexact HF
      iexact HO
    iintro ⟨⟨Ho, Hg⟩, Hv, HO⟩
    iapply Hk
    isplitl [Hx Ho]
    · isplitl [Hx]; · iexact Hx
      iexact Ho
    isplitl [Hg Hi Hv Hz]
    · isplitl [Hg]; · iexact Hg
      isplitl [Hi]; · iexact Hi
      isplitl [Hv]; · iexact Hv
      iexact Hz
    iexact HO
  · rw [if_neg hp]
    iintro ⟨Hw, HO⟩ Hk
    icases Hw with ⟨HF, Hi, Hg, Hx⟩
    iapply (wp_landed c Q) $$ [HF HO]
    · isplitl [HF]; · iexact HF
      iexact HO
    iintro ⟨⟨Ho, Hz⟩, Hv, HO⟩
    iapply Hk
    isplitl [Hx Ho]
    · isplitl [Hx]; · iexact Hx
      iexact Ho
    isplitl [Hg Hi Hv Hz]
    · isplitl [Hg]; · iexact Hg
      isplitl [Hi]; · iexact Hi
      isplitl [Hv]; · iexact Hv
      iexact Hz
    iexact HO

end Cert.Ring

end
-- ==== Proof.Body.lean ====
/-
  The ring as a whole: `Ring d m e` is its state when jobs `0 … d-1` are done, `d … m-1` are going out, `m … e-1` are
  coming in and the rest wait. The slots free are those of jobs `e … d+11`. Each operation moves one of the three
  marks; the body at grid point `t` takes `Inv t` to `Inv (t + 1)` (`body_step`).
-/
module

public import proofs.«01_k».proof.Proof.Ring

@[expose] public section

noncomputable section

namespace Cert.Ring

open Cert.KernelIdeal Cert.KernelIdeal.Gen
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A family over an interval: its first member and the rest; -/
theorem bigSep_first {a b : ℕ} (h : a < b) (Φ : ℕ → sProp 𝕄) :
    BI.bigSep (Finset.Ico a b) Φ = iprop(Φ a ∗ BI.bigSep (Finset.Ico (a + 1) b) Φ) := by
  have e : Finset.Ico a b = insert a (Finset.Ico (a + 1) b) := by
    ext x; simp only [Finset.mem_Ico, Finset.mem_insert]; omega
  rw [e, BI.bigSep_insert (by simp)]
  rfl

/-- its last member and the rest. -/
theorem bigSep_last {a b : ℕ} (h : a ≤ b) (Φ : ℕ → sProp 𝕄) :
    BI.bigSep (Finset.Ico a (b + 1)) Φ = iprop(Φ b ∗ BI.bigSep (Finset.Ico a b) Φ) := by
  have e : Finset.Ico a (b + 1) = insert b (Finset.Ico a b) := by
    ext x; simp only [Finset.mem_Ico, Finset.mem_insert]; omega
  rw [e, BI.bigSep_insert (by simp)]
  rfl

variable (c : Dev nD) (Rm : S6.Idx → BitVec 32) (X O : S64x17x8x4096.Idx → F .f32) (z : F .f32)

/-- Equal offsets are of equal slots. -/
theorem slotAt_pt {o o' : Fin S12x8x8x4096.rank → ℕ} (e : o = o') (h : ∀ d, o d + S1x8x8x4096.size d ≤ S12x8x8x4096.size d)
    (h' : ∀ d, o' d + S1x8x8x4096.size d ≤ S12x8x8x4096.size d) (g : S12x8x8x4096.Idx → F .f32) :
    ((slotAt (Memref.whole cc0_scratch0) o h).view.loc (c.tc : Thread nD τ) ↦[(slotAt (Memref.whole cc0_scratch0) o h).view.set]{fullShare} g : sProp 𝕄)
      = (slotAt (Memref.whole cc0_scratch0) o' h').view.loc (c.tc : Thread nD τ) ↦[(slotAt (Memref.whole cc0_scratch0) o' h').view.set]{fullShare} g := by
  subst e; rfl

/-- Equal offsets are of equal semaphores. -/
theorem semAt_val {a : DmaSems sig S12} {o o' : Fin S12.rank → ℕ} (e : o = o') (h : ∀ d, o d + S1.size d ≤ S12.size d)
    (h' : ∀ d, o' d + S1.size d ≤ S12.size d) :
    (semVal ((c.tc : Thread nD τ), .dma (semAt a o h)) 0 : sProp 𝕄) = semVal ((c.tc : Thread nD τ), .dma (semAt a o' h')) 0 := by
  subst e; rfl

/-- A slot freed is that of the job twelve on. -/
theorem free_later (t : ℕ) : Free c z (12 + t) = Free (F := F) c z t := by
  have e : (12 + t) % 12 = t % 12 := Nat.add_mod_left 12 t
  have e1 : semOff (12 + t) = semOff t := by unfold semOff; rw [e]
  have e2 : slotOff (12 + t) = slotOff t := by unfold slotOff; rw [e]
  have hs : SlotAny (F := F) c (12 + t) = SlotAny c t := by
    unfold SlotAny SlotPt
    exact congrArg _ (funext fun g => slotAt_pt c e2 _ _ g)
  have hi : InSem (F := F) c (12 + t) = InSem c t := semAt_val c e1 _ _
  have ho : OutSem (F := F) c (12 + t) = OutSem c t := semAt_val c e1 _ _
  have hz : ZeroTok c z (12 + t) = ZeroTok (F := F) c z t := by unfold ZeroTok; rw [e]
  unfold Free
  rw [hs, hi, ho, hz]

/-- The ring's state between operations. -/
def Ring (d m e : ℕ) : sProp 𝕄 :=
  iprop(BI.bigSep (Finset.Ico 0 d) (Done c Rm X z) ∗ BI.bigSep (Finset.Ico d m) (Going c Rm X z)
    ∗ BI.bigSep (Finset.Ico m e) (Coming c Rm X O z) ∗ BI.bigSep (Finset.Ico e 136) (Waiting c X O)
    ∗ BI.bigSep (Finset.Ico e (12 + d)) (Free c z) ∗ RemPt (F := F) c Rm ∗ Owes (F := F) c)

/-- A job goes out of the ring. -/
theorem ring_waitOut {d m e : ℕ} (hm : d < m) (he : e ≤ 12 + d) (Q : PUnit → sProp 𝕄) :
    Ring c Rm X O z d m e ⊢ (Ring c Rm X O z (d + 1) m e -∗ Q ⟨⟩) -∗ wpB c (jobWaitOut (F := F) d) Q := by
  unfold Ring
  rw [bigSep_first hm, bigSep_last (Nat.zero_le d), show 12 + (d + 1) = 12 + d + 1 from rfl, bigSep_last he, free_later]
  iintro ⟨HD, ⟨Hg, HG⟩, HC, HW, HF, Hr, HO⟩ Hk
  iapply (wp_jobWaitOut c Rm X z Q) $$ [Hg HO]
  · isplitl [Hg]; · iexact Hg
    iexact HO
  iintro ⟨Hd, Hf, HO⟩
  iapply Hk
  isplitl [Hd HD]
  · isplitl [Hd]; · iexact Hd
    iexact HD
  isplitl [HG]; · iexact HG
  isplitl [HC]; · iexact HC
  isplitl [HW]; · iexact HW
  isplitl [Hf HF]
  · isplitl [Hf]; · iexact Hf
    iexact HF
  isplitl [Hr]; · iexact Hr
  iexact HO

/-- A job comes into the ring. -/
theorem ring_in {d m e : ℕ} (h : e < 136) (hm : m ≤ e) (he : e < 12 + d) (Q : PUnit → sProp 𝕄) :
    Ring c Rm X O z d m e ⊢ (Ring c Rm X O z d m (e + 1) -∗ Q ⟨⟩) -∗ wpB c (jobIn (F := F) e) Q := by
  unfold Ring
  rw [bigSep_first h, bigSep_first he, bigSep_last hm]
  iintro ⟨HD, HG, HC, ⟨Hw, HW⟩, ⟨Hf, HF⟩, Hr, HO⟩ Hk
  iapply (wp_jobIn c Rm X O z h Q) $$ [Hw Hf Hr]
  · isplitl [Hr]; · iexact Hr
    isplitl [Hw]; · iexact Hw
    iexact Hf
  iintro ⟨Hr, Hc⟩
  iapply Hk
  isplitl [HD]; · iexact HD
  isplitl [HG]; · iexact HG
  isplitl [Hc HC]
  · isplitl [Hc]; · iexact Hc
    iexact HC
  isplitl [HW]; · iexact HW
  isplitl [HF]; · iexact HF
  isplitl [Hr]; · iexact Hr
  iexact HO

/-- A job turns round. -/
theorem ring_turn {d m e : ℕ} (h : m < 136) (hd : d ≤ m) (hm : m < e) (k : BProg F PUnit) (Q : PUnit → sProp 𝕄) :
    Ring c Rm X O z d m e ⊢ (Ring c Rm X O z d (m + 1) e -∗ wpB c k Q)
      -∗ wpB c (jobWaitIn (F := F) m >>= fun _ => jobOut m >>= fun _ => k) Q := by
  unfold Ring
  rw [bigSep_first hm, bigSep_last hd]
  iintro ⟨HD, HG, ⟨Hc, HC⟩, HW, HF, Hr, HO⟩ Hk
  iapply wpB_bind
  iapply (wp_jobWaitIn c Rm X O z h) $$ [Hc Hr HO]
  · isplitl [Hr]; · iexact Hr
    isplitl [Hc]; · iexact Hc
    iexact HO
  iintro ⟨Hr, Hc, HO⟩
  iapply wpB_bind
  iapply (wp_jobOut c Rm X O z h) $$ [Hc Hr]
  · isplitl [Hr]; · iexact Hr
    iexact Hc
  iintro ⟨Hr, Hg⟩
  iapply Hk
  isplitl [HD]; · iexact HD
  isplitl [Hg HG]
  · isplitl [Hg]; · iexact Hg
    iexact HG
  isplitl [HC]; · iexact HC
  isplitl [HW]; · iexact HW
  isplitl [HF]; · iexact HF
  isplitl [Hr]; · iexact Hr
  iexact HO

theorem wp_doIf_yes {b : Prop} [Decidable b] (hb : b) {p : BProg F PUnit} (Q : PUnit → sProp 𝕄) : wpB c p Q ⊢ wpB c (doIf b p) Q := by
  unfold doIf; rw [if_pos hb]
theorem wp_doIf_no {b : Prop} [Decidable b] (hb : ¬b) {p : BProg F PUnit} (Q : PUnit → sProp 𝕄) : Q ⟨⟩ ⊢ wpB c (doIf b p) Q := by
  unfold doIf; rw [if_neg hb]; exact wpB_pure c _ Q

/-- The first six jobs come in. -/
theorem ring_start (Q : PUnit → sProp 𝕄) :
    Ring c Rm X O z 0 0 0 ⊢ (Ring c Rm X O z 0 0 6 -∗ Q ⟨⟩) -∗ wpB c (startSix (F := F)) Q := by
  unfold startSix
  iintro H Hk
  iapply wpB_bind
  iapply (ring_in c Rm X O z (d := 0) (m := 0) (e := 0) (by decide) (by decide) (by decide)) $$ H
  iintro H
  iapply wpB_bind
  iapply (ring_in c Rm X O z (d := 0) (m := 0) (e := 1) (by decide) (by decide) (by decide)) $$ H
  iintro H
  iapply wpB_bind
  iapply (ring_in c Rm X O z (d := 0) (m := 0) (e := 2) (by decide) (by decide) (by decide)) $$ H
  iintro H
  iapply wpB_bind
  iapply (ring_in c Rm X O z (d := 0) (m := 0) (e := 3) (by decide) (by decide) (by decide)) $$ H
  iintro H
  iapply wpB_bind
  iapply (ring_in c Rm X O z (d := 0) (m := 0) (e := 4) (by decide) (by decide) (by decide)) $$ H
  iintro H
  iapply (ring_in c Rm X O z (d := 0) (m := 0) (e := 5) (by decide) (by decide) (by decide)) $$ H
  iexact Hk

/-- The waits at the end in the order the program has them: the last job first. The states between are the ring's with
    the jobs done counted from the end. -/
def Drain (j : ℕ) : sProp 𝕄 :=
  iprop(BI.bigSep (Finset.Ico 0 130) (Done c Rm X z) ∗ BI.bigSep (Finset.Ico 130 j) (Going c Rm X z) ∗ BI.bigSep (Finset.Ico j 136) (Done c Rm X z)
    ∗ BI.bigSep (Finset.Ico j 136) (Free c z) ∗ BI.bigSep (Finset.Ico 124 130) (Free c z) ∗ RemPt (F := F) c Rm ∗ Owes (F := F) c)

theorem drain_one {j : ℕ} (h : 130 ≤ j) (h' : j < 136) (Q : PUnit → sProp 𝕄) :
    Drain c Rm X z (j + 1) ⊢ (Drain c Rm X z j -∗ Q ⟨⟩) -∗ wpB c (jobWaitOut (F := F) j) Q := by
  unfold Drain
  rw [bigSep_last h, bigSep_first h', bigSep_first h']
  iintro ⟨HD, ⟨Hg, HG⟩, HE, HF, HF', Hr, HO⟩ Hk
  iapply (wp_jobWaitOut c Rm X z Q) $$ [Hg HO]
  · isplitl [Hg]; · iexact Hg
    iexact HO
  iintro ⟨Hd, Hf, HO⟩
  iapply Hk
  isplitl [HD]; · iexact HD
  isplitl [HG]; · iexact HG
  isplitl [Hd HE]
  · isplitl [Hd]; · iexact Hd
    iexact HE
  isplitl [Hf HF]
  · isplitl [Hf]; · iexact Hf
    iexact HF
  isplitl [HF']; · iexact HF'
  isplitl [Hr]; · iexact Hr
  iexact HO

/-- Free slots twelve jobs on, -/
theorem free_shift (a b : ℕ) : BI.bigSep (Finset.Ico (12 + a) (12 + b)) (Free (F := F) c z) = BI.bigSep (Finset.Ico a b) (Free c z) := by
  have e : Finset.Ico (12 + a) (12 + b) = (Finset.Ico a b).map (addLeftEmbedding 12) := by
    ext x
    simp only [Finset.mem_map, Finset.mem_Ico, addLeftEmbedding_apply]
    constructor
    · intro hx; exact ⟨x - 12, by omega, by omega⟩
    · rintro ⟨y, hy, rfl⟩; omega
  rw [e, BI.bigSep_map]
  exact BI.bigSep_congr fun t _ => free_later c z t

/-- and any number of times twelve. -/
theorem free_shifts (n a b : ℕ) : BI.bigSep (Finset.Ico (12 * n + a) (12 * n + b)) (Free (F := F) c z) = BI.bigSep (Finset.Ico a b) (Free c z) := by
  induction n with
  | zero => rw [Nat.mul_zero, Nat.zero_add, Nat.zero_add]
  | succ n ih =>
    rw [show 12 * (n + 1) + a = 12 + (12 * n + a) by omega, show 12 * (n + 1) + b = 12 + (12 * n + b) by omega, free_shift, ih]

/-- Two intervals end to end. -/
theorem bigSep_join {a b d : ℕ} (h : a ≤ b) (h' : b ≤ d) (Φ : ℕ → sProp 𝕄) :
    BI.bigSep (Finset.Ico a d) Φ = iprop(BI.bigSep (Finset.Ico a b) Φ ∗ BI.bigSep (Finset.Ico b d) Φ) := by
  rw [← Finset.Ico_union_Ico_eq_Ico h h', BI.bigSep_union (Finset.Ico_disjoint_Ico_consecutive a b d)]
  rfl

/-- All jobs done, all slots free. -/
def AllDone : sProp 𝕄 :=
  iprop(BI.bigSep (Finset.Ico 0 136) (Done c Rm X z) ∗ BI.bigSep (Finset.Ico 0 12) (Free c z) ∗ RemPt (F := F) c Rm ∗ Owes (F := F) c)

/-- The end of the ring before the last waits is the drain's start; -/
theorem drain_start : Ring c Rm X O z 130 136 136 ⊢ Drain c Rm X z 136 := by
  unfold Ring Drain
  rw [Finset.Ico_self, BI.bigSep_empty, BI.bigSep_empty, BI.bigSep_empty, BI.bigSep_empty,
    show Finset.Ico 136 (12 + 130) = Finset.Ico (12 + 124) (12 + 130) from rfl, free_shift]

/-- and the drain's end is all done. -/
theorem drain_end : Drain c Rm X z 130 ⊢ AllDone c Rm X z := by
  unfold Drain AllDone
  rw [bigSep_join (show 0 ≤ 130 by decide) (show 130 ≤ 136 by decide) (Done c Rm X z),
    bigSep_join (show 0 ≤ 4 by decide) (show 4 ≤ 12 by decide) (Free c z),
    show Finset.Ico 130 136 = Finset.Ico (12 * 10 + 10) (12 * 10 + 16) from rfl,
    show Finset.Ico 124 130 = Finset.Ico (12 * 10 + 4) (12 * 10 + 10) from rfl, free_shifts, free_shifts,
    bigSep_join (show 10 ≤ 12 by decide) (show 12 ≤ 16 by decide) (Free c z),
    bigSep_join (show 4 ≤ 10 by decide) (show 10 ≤ 12 by decide) (Free c z),
    show Finset.Ico 12 16 = Finset.Ico (12 + 0) (12 + 4) from rfl, free_shift]
  iintro ⟨HD, -, HE, ⟨Ha, Hb⟩, Hc, Hr, HO⟩
  isplitl [HD HE]
  · isplitl [HD]; · iexact HD
    iexact HE
  isplitl [Ha Hb Hc]
  · isplitl [Hb]; · iexact Hb
    isplitl [Hc]; · iexact Hc
    iexact Ha
  isplitl [Hr]; · iexact Hr
  iexact HO

/-- The last six jobs are waited for. -/
theorem ring_end (Q : PUnit → sProp 𝕄) :
    Ring c Rm X O z 130 136 136 ⊢ (AllDone c Rm X z -∗ Q ⟨⟩) -∗ wpB c (endSix (F := F)) Q := by
  unfold endSix
  iintro H Hk
  ihave H := (drain_start c Rm X O z) $$ H
  iapply wpB_bind
  iapply (drain_one c Rm X z (j := 135) (by decide) (by decide)) $$ H
  iintro H
  iapply wpB_bind
  iapply (drain_one c Rm X z (j := 134) (by decide) (by decide)) $$ H
  iintro H
  iapply wpB_bind
  iapply (drain_one c Rm X z (j := 133) (by decide) (by decide)) $$ H
  iintro H
  iapply wpB_bind
  iapply (drain_one c Rm X z (j := 132) (by decide) (by decide)) $$ H
  iintro H
  iapply wpB_bind
  iapply (drain_one c Rm X z (j := 131) (by decide) (by decide)) $$ H
  iintro H
  iapply (drain_one c Rm X z (j := 130) (by decide) (by decide)) $$ H
  iintro H
  iapply Hk
  iapply (drain_end c Rm X z) $$ H

/-- The state before grid point `t`. -/
def Inv (t : ℕ) : sProp 𝕄 :=
  if t = 0 then Ring c Rm X O z 0 0 0 else if t = 136 then AllDone c Rm X z else Ring c Rm X O z (t - 6) t (min (t + 6) 136)

/-- The optional operations as one step each: the first six copies at the first point, -/
theorem ring_first {t : ℕ} (h : t < 136) (Q : PUnit → sProp 𝕄) :
    Inv c Rm X O z t ⊢ (Ring c Rm X O z (t - 6) t (min (t + 6) 136) -∗ Q ⟨⟩) -∗ wpB c (doIf (F := F) (t = 0) startSix) Q := by
  unfold Inv
  by_cases h0 : t = 0
  · subst h0
    rw [if_pos rfl]
    iintro H Hk
    iapply (wp_doIf_yes c rfl)
    iapply (ring_start c Rm X O z Q) $$ H
    iexact Hk
  · rw [if_neg h0, if_neg (by omega)]
    iintro H Hk
    iapply (wp_doIf_no c h0)
    iapply Hk
    iexact H

/-- the wait for the job six points back, -/
theorem ring_out {t : ℕ} (h : t < 136) (Q : PUnit → sProp 𝕄) :
    Ring c Rm X O z (t - 6) t (min (t + 6) 136) ⊢ (Ring c Rm X O z (t + 1 - 6) t (min (t + 6) 136) -∗ Q ⟨⟩)
      -∗ wpB c (doIf (F := F) (6 ≤ t) (jobWaitOut (t - 6))) Q := by
  by_cases h6 : 6 ≤ t
  · rw [show t + 1 - 6 = t - 6 + 1 by omega]
    have h1 : t - 6 < t := by omega
    have h2 : min (t + 6) 136 ≤ 12 + (t - 6) := by omega
    iintro H Hk
    iapply (wp_doIf_yes c h6)
    iapply (ring_waitOut c Rm X O z h1 h2 Q) $$ H
    iexact Hk
  · rw [show t + 1 - 6 = t - 6 by omega]
    iintro H Hk
    iapply (wp_doIf_no c h6)
    iapply Hk
    iexact H

/-- the copy in of the job six points on, -/
theorem ring_next {t : ℕ} (h : t < 136) (Q : PUnit → sProp 𝕄) :
    Ring c Rm X O z (t + 1 - 6) t (min (t + 6) 136) ⊢ (Ring c Rm X O z (t + 1 - 6) t (min (t + 1 + 6) 136) -∗ Q ⟨⟩)
      -∗ wpB c (doIf (F := F) (t + 6 < 136) (jobIn (t + 6))) Q := by
  by_cases h6 : t + 6 < 136
  · rw [show min (t + 6) 136 = t + 6 by omega, show min (t + 1 + 6) 136 = t + 6 + 1 by omega]
    have h1 : t ≤ t + 6 := by omega
    have h2 : t + 6 < 12 + (t + 1 - 6) := by omega
    iintro H Hk
    iapply (wp_doIf_yes c h6)
    iapply (ring_in c Rm X O z h6 h1 h2 Q) $$ H
    iexact Hk
  · rw [show min (t + 6) 136 = 136 by omega, show min (t + 1 + 6) 136 = 136 by omega]
    iintro H Hk
    iapply (wp_doIf_no c h6)
    iapply Hk
    iexact H

/-- and the last six waits at the last point. -/
theorem ring_last {t : ℕ} (h : t < 136) (Q : PUnit → sProp 𝕄) :
    Ring c Rm X O z (t + 1 - 6) (t + 1) (min (t + 1 + 6) 136) ⊢ (Inv c Rm X O z (t + 1) -∗ Q ⟨⟩)
      -∗ wpB c (doIf (F := F) (t = 135) endSix) Q := by
  unfold Inv
  rw [if_neg (Nat.succ_ne_zero t)]
  by_cases h1 : t = 135
  · subst h1
    rw [if_pos rfl]
    show Ring c Rm X O z 130 136 136 ⊢ _
    iintro H Hk
    iapply (wp_doIf_yes c rfl)
    iapply (ring_end c Rm X O z Q) $$ H
    iexact Hk
  · rw [if_neg (by omega)]
    iintro H Hk
    iapply (wp_doIf_no c h1)
    iapply Hk
    iexact H

/-- The body at grid point `t` takes the state before it to the state before the next. -/
theorem body_step : BodyStep (F := F) c (Inv c Rm X O z) := by
  intro t h
  rw [bodyAt_eq t h]
  have hm : t < min (t + 1 + 6) 136 := by omega
  have hd : t + 1 - 6 ≤ t := by omega
  unfold ringBody
  iintro H
  iapply wpB_bind
  iapply (ring_first c Rm X O z h) $$ H
  iintro H
  iapply wpB_bind
  iapply (ring_out c Rm X O z h) $$ H
  iintro H
  iapply wpB_bind
  iapply (ring_next c Rm X O z h) $$ H
  iintro H
  iapply (ring_turn c Rm X O z h hd hm) $$ H
  iintro H
  iapply (ring_last c Rm X O z h) $$ H
  iintro H
  iexact H

end Cert.Ring

end
-- ==== Proof.Blocks.lean ====
/-
  The arrays in blocks: the input's and the output's array are each their 136 blocks, the buffer its twelve slots, the
  zeros twelve shares and a rest. With them `ring_open` and `ring_close`: what the whole arrays, the buffer and the
  semaphores make is the ring with no job begun, and the ring with all jobs done makes them again.
-/
module

public import proofs.«01_k».proof.Proof.Body

@[expose] public section

noncomputable section

namespace Cert.Ring

open Cert.KernelIdeal Cert.KernelIdeal.Gen
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (Rm : S6.Idx → BitVec 32) (X O : S64x17x8x4096.Idx → F .f32) (z : F .f32)

/-- The elements of block `t`. -/
abbrev blockSet (t : ℕ) : Finset S64x17x8x4096.Idx := (Rect.unit (s := S64x17x8x4096) (blockOff t) S8x1x8x4096.size (blockOff_inb t)).set
/-- The elements of slot `t`. -/
abbrev slotSet (t : ℕ) : Finset S12x8x8x4096.Idx := (Rect.unit (s := S12x8x8x4096) (slotOff t) S1x8x8x4096.size (slotOff_inb t)).set

theorem inM_set (t : ℕ) : (inM t).view.set = blockSet t := (View.set_reshape _ _).trans (View.set_slice_whole _ _)
theorem outM_set (t : ℕ) : (outM t).view.set = blockSet t := (View.set_reshape _ _).trans (View.set_slice_whole _ _)
theorem slotM_set (t : ℕ) : (slotM t).view.set = slotSet t := (View.set_reshape _ _).trans (View.set_slice_whole _ _)

/-- An element is in the block of its eight rows and its electrode. -/
theorem mem_blockSet (t : ℕ) (i : S64x17x8x4096.Idx) : i ∈ blockSet t ↔ (i 0).1 / 8 = t % 8 ∧ (i 1).1 = t / 8 % 17 := by
  rw [Rect.mem_set_unit]
  constructor
  · intro h
    have h0 : 8 * (t % 8) ≤ (i 0).1 ∧ (i 0).1 < 8 * (t % 8) + 8 := h 0
    have h1 : t / 8 % 17 ≤ (i 1).1 ∧ (i 1).1 < t / 8 % 17 + 1 := h 1
    omega
  · rintro ⟨h0, h1⟩ d
    fin_cases d
    · show 8 * (t % 8) ≤ (i 0).1 ∧ (i 0).1 < 8 * (t % 8) + 8; omega
    · show t / 8 % 17 ≤ (i 1).1 ∧ (i 1).1 < t / 8 % 17 + 1; omega
    · show 0 ≤ (i 2).1 ∧ (i 2).1 < 0 + 8
      have : (i 2).1 < 8 := (i 2).2
      omega
    · show 0 ≤ (i 3).1 ∧ (i 3).1 < 0 + 4096
      have : (i 3).1 < 4096 := (i 3).2
      omega

/-- An element is in the slot of its first coordinate. -/
theorem mem_slotSet (t : ℕ) (i : S12x8x8x4096.Idx) : i ∈ slotSet t ↔ (i 0).1 = t % 12 := by
  rw [Rect.mem_set_unit]
  constructor
  · intro h
    have h0 : t % 12 ≤ (i 0).1 ∧ (i 0).1 < t % 12 + 1 := h 0
    omega
  · intro h0 d
    fin_cases d
    · show t % 12 ≤ (i 0).1 ∧ (i 0).1 < t % 12 + 1; omega
    · show 0 ≤ (i 1).1 ∧ (i 1).1 < 0 + 8
      have : (i 1).1 < 8 := (i 1).2
      omega
    · show 0 ≤ (i 2).1 ∧ (i 2).1 < 0 + 8
      have : (i 2).1 < 8 := (i 2).2
      omega
    · show 0 ≤ (i 3).1 ∧ (i 3).1 < 0 + 4096
      have : (i 3).1 < 4096 := (i 3).2
      omega

theorem block_disjoint : ∀ t ∈ Finset.Ico 0 136, ∀ t' ∈ Finset.Ico 0 136, t ≠ t' → Disjoint (blockSet t) (blockSet t') := by
  intro t ht t' ht' hne
  rw [Finset.mem_Ico] at ht ht'
  refine Finset.disjoint_left.mpr fun i hi hi' => hne ?_
  rw [mem_blockSet] at hi hi'
  omega

theorem slot_disjoint : ∀ t ∈ Finset.Ico 0 12, ∀ t' ∈ Finset.Ico 0 12, t ≠ t' → Disjoint (slotSet t) (slotSet t') := by
  intro t ht t' ht' hne
  rw [Finset.mem_Ico] at ht ht'
  refine Finset.disjoint_left.mpr fun i hi hi' => hne ?_
  rw [mem_slotSet] at hi hi'
  omega

theorem block_cover : (Finset.Ico 0 136).biUnion blockSet = Finset.univ := by
  refine Finset.eq_univ_iff_forall.mpr fun i => Finset.mem_biUnion.mpr ?_
  have h0 : (i 0).1 < 64 := (i 0).2
  have h1 : (i 1).1 < 17 := (i 1).2
  refine ⟨8 * (i 1).1 + (i 0).1 / 8, Finset.mem_Ico.mpr ⟨Nat.zero_le _, by omega⟩, (mem_blockSet _ _).mpr ?_⟩
  omega

theorem slot_cover : (Finset.Ico 0 12).biUnion slotSet = Finset.univ := by
  refine Finset.eq_univ_iff_forall.mpr fun i => Finset.mem_biUnion.mpr ?_
  have h0 : (i 0).1 < 12 := (i 0).2
  refine ⟨(i 0).1, Finset.mem_Ico.mpr ⟨Nat.zero_le _, h0⟩, (mem_slotSet _ _).mpr ?_⟩
  omega

/-- The input's array is its blocks. -/
theorem in_blocks : whole c main_v0 X = BI.bigSep (Finset.Ico 0 136) (InPt c X) := by
  unfold whole InPt
  rw [← block_cover, pointsTo_biUnion _ _ block_disjoint]
  exact BI.bigSep_congr fun t _ => by rw [inM_set]

/-- The output's array is its blocks. -/
theorem out_blocks : whole c main_v2 O = BI.bigSep (Finset.Ico 0 136) (OutPt c O) := by
  unfold whole OutPt
  rw [← block_cover, pointsTo_biUnion _ _ block_disjoint]
  exact BI.bigSep_congr fun t _ => by rw [outM_set]

/-- A slot with known contents is a slot. -/
theorem slot_any (t : ℕ) (g : S12x8x8x4096.Idx → F .f32) : SlotPt (F := F) c t g ⊢ SlotAny (F := F) c t := by
  unfold SlotAny
  iintro H
  iexists g
  iexact H

/-- The buffer comes apart into its slots, -/
theorem slots_split (g : S12x8x8x4096.Idx → F .f32) : whole c cc0_scratch0 g ⊢ BI.bigSep (Finset.Ico 0 12) (SlotAny (F := F) c) := by
  unfold whole
  rw [← slot_cover, pointsTo_biUnion _ _ slot_disjoint]
  refine BI.bigSep_mono fun t _ => ?_
  refine Entails.trans (Entails.of_eq ?_) (slot_any c t g)
  unfold SlotPt
  rw [slotM_set]

/-- and the slots, whatever they hold, make it. -/
theorem slots_join (g : S12x8x8x4096.Idx → F .f32) : BI.bigSep (Finset.Ico 0 12) (SlotAny (F := F) c) ⊢ iprop(∃ f, whole (F := F) c cc0_scratch0 f) := by
  have e : BI.bigSep (Finset.Ico 0 12) (SlotAny (F := F) c)
      ⊢ BI.bigSep (Finset.Ico 0 12) fun t => iprop(∃ f : Buf (Elt F) ((Memref.whole cc0_scratch0).view.loc (c.tc : Thread nD τ)),
          ((Memref.whole cc0_scratch0).view.loc (c.tc : Thread nD τ) ↦[slotSet t]{fullShare} f : sProp 𝕄)) := by
    refine BI.bigSep_mono fun t _ => ?_
    unfold SlotAny SlotPt
    rw [slotM_set]
    exact Entails.refl _
  have : Nonempty (Buf (Elt F) ((Memref.whole cc0_scratch0).view.loc (c.tc : Thread nD τ))) := ⟨g⟩
  refine e.trans ((BI.bigSep_exists_pi _ _).trans ?_)
  iintro ⟨%fs, H⟩
  ihave H := (pointsTo_biUnion_join _ _ fs g slot_disjoint) $$ H
  icases H with ⟨%f, -, H⟩
  iexists f
  iapply (Entails.of_eq (congrArg (fun S => ((Memref.whole cc0_scratch0).view.loc (c.tc : Thread nD τ) ↦[S]{fullShare} f : sProp 𝕄)) slot_cover)) $$ H

/-- The staged labels, whole. -/
theorem rem_whole : whole (F := F) c cc0_stg0_0 Rm ⊣⊢ RemPt (F := F) c Rm := ⟨Entails.refl _, Entails.refl _⟩

/-- The shares of the zeros: what is left over. -/
def ZeroRest : sProp 𝕄 :=
  zeroM.view.loc (c.tc : Thread nD τ) ↦{shareDrop fullShare 12} ((fun _ => z : S8x8x4096.Idx → F .f32) : Buf (Elt F) (zeroM.view.loc (c.tc : Thread nD τ)))

theorem zero_toks : whole c cc0_stg1_0 (fun _ => z) ⊣⊢ iprop(ZeroRest c z ∗ BI.bigSep (Finset.Ico 0 12) (ZeroTok (F := F) c z)) := by
  have e : BI.bigSep (Finset.Ico 0 12) (ZeroTok (F := F) c z)
      = BI.bigSep (Finset.range 12) fun i => (zeroM.view.loc (c.tc : Thread nD τ) ↦{shareTokN fullShare i} ((fun _ => z : S8x8x4096.Idx → F .f32) : Buf (Elt F) (zeroM.view.loc (c.tc : Thread nD τ))) : sProp 𝕄) := by
    rw [Finset.range_eq_Ico]
    refine BI.bigSep_congr fun t ht => ?_
    unfold ZeroTok
    rw [Nat.mod_eq_of_lt (Finset.mem_Ico.mp ht).2]
  rw [e]
  exact pointsTo_toks_range fullShare 12

/-- Free slots, part by part. -/
theorem free_parts : BI.bigSep (Finset.Ico 0 12) (Free (F := F) c z)
    = iprop(BI.bigSep (Finset.Ico 0 12) (SlotAny (F := F) c) ∗ BI.bigSep (Finset.Ico 0 12) (InSem (F := F) c)
      ∗ BI.bigSep (Finset.Ico 0 12) (OutSem (F := F) c) ∗ BI.bigSep (Finset.Ico 0 12) (ZeroTok (F := F) c z)) := by
  unfold Free
  rw [BI.bigSep_sep', BI.bigSep_sep', BI.bigSep_sep']

/-- What the kernel works on besides what is staged: its two arrays, its buffer and its semaphores. -/
def Work (X G : S64x17x8x4096.Idx → F .f32) : sProp 𝕄 :=
  iprop(whole c main_v0 X ∗ whole c main_v2 G ∗ (∃ f, whole (F := F) c cc0_scratch0 f) ∗ BI.bigSep (Finset.Ico 0 12) (InSem (F := F) c)
    ∗ BI.bigSep (Finset.Ico 0 12) (OutSem (F := F) c))

/-- At the start the ring is made, -/
theorem ring_open : iprop(Work c X O ∗ whole c cc0_stg0_0 Rm ∗ whole c cc0_stg1_0 (fun _ => z) ∗ Owes (F := F) c)
    ⊢ iprop(Ring c Rm X O z 0 0 0 ∗ ZeroRest c z) := by
  unfold Work Ring
  rw [Finset.Ico_self, BI.bigSep_empty, BI.bigSep_empty, BI.bigSep_empty, Nat.add_zero, free_parts, in_blocks, out_blocks]
  iintro ⟨⟨HX, HG, ⟨%f, Hf⟩, Hi, Ho⟩, Hr, Hz, HO⟩
  ihave Hz := (zero_toks c z).1 $$ Hz
  icases Hz with ⟨Hz, Ht⟩
  ihave Hf := (slots_split c f) $$ Hf
  isplitr [Hz]
  · isplitr; · iempintro
    isplitr; · iempintro
    isplitr; · iempintro
    isplitl [HX HG]
    · unfold Waiting
      iapply (Entails.of_eq (BI.bigSep_sep' (Finset.Ico 0 136) (InPt c X) (OutPt c O)).symm)
      isplitl [HX]; · iexact HX
      iexact HG
    isplitl [Hf Hi Ho Ht]
    · isplitl [Hf]; · iexact Hf
      isplitl [Hi]; · iexact Hi
      isplitl [Ho]; · iexact Ho
      iexact Ht
    isplitl [Hr]; · iapply (rem_whole c Rm).1 $$ Hr
    iexact HO
  · iexact Hz

/-- and at the end it is taken apart. -/
theorem ring_close (g : S12x8x8x4096.Idx → F .f32) : iprop(AllDone c Rm X z ∗ ZeroRest c z)
    ⊢ iprop(Work c X (final Rm X z) ∗ whole c cc0_stg0_0 Rm ∗ whole c cc0_stg1_0 (fun _ => z) ∗ Owes (F := F) c) := by
  unfold Work AllDone
  rw [free_parts, in_blocks, out_blocks]
  iintro ⟨⟨HD, ⟨Hf, Hi, Ho, Ht⟩, Hr, HO⟩, Hz⟩
  ihave HD := (show BI.bigSep (Finset.Ico 0 136) (Done c Rm X z) ⊢ iprop(BI.bigSep (Finset.Ico 0 136) (InPt c X)
    ∗ BI.bigSep (Finset.Ico 0 136) (OutPt c (final Rm X z))) from Entails.of_eq (BI.bigSep_sep' _ _ _)) $$ HD
  icases HD with ⟨HX, HG⟩
  isplitl [HX HG Hf Hi Ho]
  · isplitl [HX]; · iexact HX
    isplitl [HG]; · iexact HG
    isplitl [Hf]
    · iapply (slots_join c g) $$ Hf
    isplitl [Hi]; · iexact Hi
    iexact Ho
  isplitl [Hr]; · iapply (rem_whole c Rm).2 $$ Hr
  isplitl [Hz Ht]
  · iapply (zero_toks c z).2
    isplitl [Hz]; · iexact Hz
    iexact Ht
  iexact HO

end Cert.Ring

end
-- ==== Proof.Call.lean ====
/-
  The call of the region: from the thread's state between two operations of the host and the arrays the kernel names, the
  pallas_call runs to the same with the result's array written (`wp_region`).
-/
module

public import proofs.«01_k».proof.Proof.Blocks

@[expose] public section

noncomputable section

namespace Cert.Ring

open Cert.KernelIdeal Cert.KernelIdeal.Gen
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕍" => Variants.none.lift

variable (c : Dev nD) (Rm : S6.Idx → BitVec 32) (X O : S64x17x8x4096.Idx → F .f32) (z : F .f32)

/-- The scoped buffers are the two staging buffers and the kernel's buffer. -/
theorem scoped_bufs : (scopedBufs (c.tc : Thread nD τ) : sProp 𝕄)
    = iprop((∃ f, whole (F := F) c cc0_stg0_0 f) ∗ (∃ f, whole (F := F) c cc0_stg1_0 f) ∗ (∃ f, whole (F := F) c cc0_scratch0 f)) :=
  (scopedBufs_tc c).trans (bigSep_eq_bigSepL_of_eq [cc0_stg0_0, cc0_stg1_0, cc0_scratch0] (by decide) (by decide) _)

/-- Twelve semaphores for the copies in, -/
theorem semI_inj : Set.InjOn (fun t => (SemLoc.dma (semI t) : SemLoc sig)) (Finset.Ico 0 12 : Finset ℕ) := by
  have h : ∀ t ∈ Finset.Ico 0 12, ∀ t' ∈ Finset.Ico 0 12, (SemLoc.dma (semI t) : SemLoc sig) = SemLoc.dma (semI t') → t = t' := by decide
  exact fun t ht t' ht' e => h t ht t' ht' e
/-- and twelve for the copies out. -/
theorem semO_inj : Set.InjOn (fun t => (SemLoc.dma (semO t) : SemLoc sig)) (Finset.Ico 0 12 : Finset ℕ) := by
  have h : ∀ t ∈ Finset.Ico 0 12, ∀ t' ∈ Finset.Ico 0 12, (SemLoc.dma (semO t) : SemLoc sig) = SemLoc.dma (semO t') → t = t' := by decide
  exact fun t ht t' ht' e => h t ht t' ht' e

/-- The scoped semaphores: two of the windows, twelve of the copies in, twelve of the copies out. -/
theorem scoped_sems_eq : (Finset.univ.filter fun sm : SemLoc sig => sm.isScoped .tc)
    = ({SemLoc.dma (stgSem 0), SemLoc.dma (stgSem 1)} : Finset (SemLoc sig))
      ∪ ((Finset.Ico 0 12).image (fun t => (SemLoc.dma (semI t) : SemLoc sig)) ∪ (Finset.Ico 0 12).image fun t => (SemLoc.dma (semO t) : SemLoc sig)) := by
  decide

/-- The scoped semaphores at zero, by their use. -/
theorem scoped_sems : (scopedSems0 (c.tc : Thread nD τ) : sProp 𝕄)
    = iprop((semVal ((c.tc : Thread nD τ), SemLoc.dma (stgSem 0)) 0 ∗ semVal ((c.tc : Thread nD τ), SemLoc.dma (stgSem 1)) 0)
      ∗ BI.bigSep (Finset.Ico 0 12) (InSem (F := F) c) ∗ BI.bigSep (Finset.Ico 0 12) (OutSem (F := F) c)) := by
  refine (scopedSems0_tc c).trans ?_
  rw [scoped_sems_eq, BI.bigSep_union (by decide), BI.bigSep_union (by decide), BI.bigSep_image_of_injOn semI_inj, BI.bigSep_image_of_injOn semO_inj,
    BI.bigSep_insert (by decide), BI.bigSep_singleton]
  rfl

/-- The arrays the kernel names: the removed electrodes, the zeros, the input and the output. -/
def Arrays (G : S64x17x8x4096.Idx → F .f32) : sProp 𝕄 :=
  iprop(whole (F := F) c main_arg1 Rm ∗ whole c main_v1 (fun _ => z) ∗ whole c main_v0 X ∗ whole c main_v2 G)

/-- The scoped memory of the region, opened. -/
def Scratch : sProp 𝕄 := iprop(scopedBufs (c.tc : Thread nD τ) ∗ scopedSems0 (c.tc : Thread nD τ))

/-- From what stands at the region's entry the first iteration can run: the windows' part, the kernel's part, -/
theorem enter : iprop(Arrays c Rm X z O ∗ Scratch (F := F) c)
    ⊢ iprop((∃ f0 f1, staged c Rm (fun _ => z) f0 f1) ∗ Work c X O) := by
  unfold Arrays Scratch Work
  rw [scoped_bufs, scoped_sems]
  iintro ⟨⟨Hr, Hz, HX, HO⟩, ⟨⟨%f0, H0⟩, ⟨%f1, H1⟩, Hs⟩, ⟨Ha, Hb⟩, Hi, Ho⟩
  isplitl [Hr Hz H0 H1 Ha Hb]
  · iexists f0
    iexists f1
    isplitl [Hr]; · iexact Hr
    isplitl [Hz]; · iexact Hz
    isplitl [H0]; · iexact H0
    isplitl [H1]; · iexact H1
    isplitl [Ha] <;> iassumption
  isplitl [HX]; · iexact HX
  isplitl [HO]; · iexact HO
  isplitl [Hs]; · iexact Hs
  isplitl [Hi] <;> iassumption

/-- and at its exit the same is put back. -/
theorem leave (f0 : S6.Idx → BitVec 32) (f1 : S8x8x4096.Idx → F .f32) (G : S64x17x8x4096.Idx → F .f32) :
    iprop(staged c Rm (fun _ => z) f0 f1 ∗ Work c X G) ⊢ iprop(Arrays c Rm X z G ∗ scopedSems0 (c.tc : Thread nD τ) ∗ scopedBufs (c.tc : Thread nD τ)) := by
  unfold Arrays Work
  rw [scoped_bufs, scoped_sems]
  iintro ⟨⟨Hr, Hz, H0, H1, Ha, Hb⟩, HX, HO, Hs, Hi, Ho⟩
  isplitl [Hr Hz HX HO]
  · isplitl [Hr]; · iexact Hr
    isplitl [Hz]; · iexact Hz
    isplitl [HX] <;> iassumption
  isplitl [Ha Hb Hi Ho]
  · isplitl [Ha Hb]
    · isplitl [Ha] <;> iassumption
    isplitl [Hi] <;> iassumption
  isplitl [H0]
  · iexists f0; iexact H0
  isplitl [H1]
  · iexists f1; iexact H1
  iexact Hs

/-- The whole loop: the windows' fetch, then every point's body. -/
theorem wp_all (a : (pcfgs (F := F) 0).Adm) (f0 : S6.Idx → BitVec 32) (f1 : S8x8x4096.Idx → F .f32) (g : S12x8x8x4096.Idx → F .f32)
    (bd : Option (𝕍).V) (hbd : ∀ v ∈ bd, (𝕍).lt (.inr 137) v) (Q : PUnit → sProp 𝕄) :
    iprop(staged c Rm (fun _ => z) f0 f1 ∗ Work c X O ∗ Owes (F := F) c)
      ⊢ iprop(((staged c Rm (fun _ => z) Rm (fun _ => z) ∗ Work c X (final Rm X z) ∗ Owes (F := F) c) -∗ Q ⟨⟩)
        -∗ wpL c bd (callLoop a 0) Q) := by
  have h1 : ∀ v ∈ (some (.inr 137) : Option (𝕍).V), (𝕍).lt (.inr 136) v := fun v hv => by cases hv; exact Sum.Lex.inr (by decide)
  have h2 : ∀ v ∈ (some (.inr 136) : Option (𝕍).V), (𝕍).lt (.inl none) v := fun v hv => by cases hv; exact Sum.Lex.sep _ _
  have h3 : ∀ v ∈ (some (.inr 136) : Option (𝕍).V), (𝕍).lt (.inr 135) v := fun v hv => by cases hv; exact Sum.Lex.inr (by decide)
  have e0 : wpL c (some (.inr 137)) (callLoop a 1) Q ⊢ wpL c (some (.inr 137)) (iterAt a 0) Q := Entails.of_eq (by rw [iter_zero])
  have e1 : _ ⊢ wpL c (some (.inr 136)) (iterAt a 1) Q := Entails.of_eq (congrArg (fun p => wpL c (some (.inr 136)) p Q) (iter_one a).symm)
  have n0 : 0 < 136 := Nat.zero_lt_succ _
  have n1 : 1 + 134 = 135 := rfl
  have n2 : 134 < 135 := Nat.lt_succ_self _
  have n3 : 0 < 1 := Nat.zero_lt_one
  have i0 : Inv c Rm X O z 0 = Ring c Rm X O z 0 0 0 := if_pos rfl
  have i1 : Inv c Rm X O z 136 = AllDone c Rm X z := (if_neg (by decide)).trans (if_pos rfl)
  iintro ⟨Hst, Hw, HO⟩ Hk
  ihave HO := (show Owes (F := F) c ⊢ iprop(∃ W, owes (c.tc : Thread nD τ) 0 W) from Entails.refl _) $$ HO
  icases HO with ⟨%W, HO⟩
  iapply (wp_callLoop c a 0 137 bd hbd Q)
  iapply e0
  iapply (wp_callLoop c a 1 136 _ h1 Q)
  iapply e1
  iapply (wp_fetch c Rm (fun _ => z) f0 f1 W _ _ Q) $$ [Hst HO]
  · isplitl [Hst] <;> iassumption
  iintro ⟨⟨Hr, Hz, H0, H1, Ha, Hb⟩, HO⟩
  ihave H := (ring_open c Rm X O z) $$ [Hw H0 H1 HO]
  · isplitl [Hw]; · iexact Hw
    isplitl [H0]; · iexact H0
    isplitl [H1]; · iexact H1
    iapply (show iprop(∃ W, owes (c.tc : Thread nD τ) 0 W) ⊢ Owes (F := F) c from Entails.refl _) $$ HO
  icases H with ⟨HR, HZ⟩
  iapply (wp_callBody c (Inv c Rm X O z) (body_step c Rm X O z) 0 n0 _ h2 _ Q) $$ [HR]
  · iapply (Entails.of_eq i0.symm) $$ HR
  iintro HR
  iapply (wp_callLoop c a 2 135 _ h3 Q)
  iapply (wp_loop c (Inv c Rm X O z) (body_step c Rm X O z) a 134 1 135 n1 n2 n3 Q) $$ HR
  iintro HR
  ihave H := (ring_close c Rm X z g) $$ [HR HZ]
  · isplitl [HR]
    · iapply (Entails.of_eq i1) $$ HR
    iexact HZ
  icases H with ⟨Hw, H0, H1, HO⟩
  iapply Hk
  isplitl [Hr Hz H0 H1 Ha Hb]
  · isplitl [Hr]; · iexact Hr
    isplitl [Hz]; · iexact Hz
    isplitl [H0]; · iexact H0
    isplitl [H1]; · iexact H1
    isplitl [Ha] <;> iassumption
  isplitl [Hw]; · iexact Hw
  iexact HO

/-- The contents of the tables read ahead of the grid: there is none. -/
def noTables : (pcfgs (F := F) 0).Adm := ⟨fun k => k.elim0, trivial⟩

/-- The region: every scoped buffer and semaphore before it, the same after it, the output's array written. -/
theorem wp_region {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ Arrays c Rm X z (final Rm X z) ∗ Owes (F := F) c)
          -∗ wp frame (wpE (LDefs F) 𝕍 (c.tc : Thread nD τ) none) Set.univ (k ⟨⟩) Q)
        ∗ boundary (c.tc : Thread nD τ) ∗ Arrays c Rm X z O ∗ Owes (F := F) c)
      ⊢ wp frame (wpE (LDefs F) 𝕍 (c.tc : Thread nD τ) none) Set.univ (.op (.customCall (Pipeline.entry 0) ()) k) Q := by
  have hb : (boundary (c.tc : Thread nD τ) : sProp 𝕄)
      = iprop(scopedBufs (c.tc : Thread nD τ) ∗ scopedSems0 (c.tc : Thread nD τ) ∗ opIdle (c.tc : Thread nD τ)) := rfl
  have h1 : ∀ v ∈ (none : Option (𝕍).V), (𝕍).lt (.inr 138) v := fun v hv => by cases hv
  have h2 : ∀ v ∈ (some (.inr 138) : Option (𝕍).V), (𝕍).lt (.inr 137) v := fun v hv => by cases hv; exact Sum.Lex.inr (by decide)
  have hrun : ((pcfgs (F := F) 0).at (noTables (F := F))).runAt 0 (noTables (F := F)) = callLoop (noTables (F := F)) 0 :=
    (if_neg (by rw [show ((pcfgs (F := F) 0).at (noTables (F := F))).N = 136 from N_0]; decide)).trans
      (dif_neg (by rw [show ((pcfgs (F := F) 0).at (noTables (F := F))).N = 136 from N_0]; decide))
  have hentry (K : PUnit → sProp 𝕄) : wpL c (some (.inr 138)) (callLoop (noTables (F := F)) 0) K
      ⊢ wp frame (wpE (LDefs F) 𝕍 (c.tc : Thread nD τ) (some (.inr 138))) Set.univ (LDefs F .tc (Pipeline.entry 0) ()) K := by
    have e : wpL c (some (.inr 138)) (callLoop (noTables (F := F)) 0) K
        ⊢ wpL c (some (.inr 138)) (((pcfgs (F := F) 0).at (noTables (F := F))).runAt 0 (noTables (F := F))) K := Entails.of_eq (by rw [hrun])
    have e' : LDefs F .tc (Pipeline.entry 0) () = (.op (.assume ((pcfgs (F := F) 0).ok (noTables (F := F)).1) ((pcfgs (F := F) 0).decOk _))
        fun h => ((pcfgs (F := F) 0).at ⟨(noTables (F := F)).1, h.down⟩).runAt 0 ⟨(noTables (F := F)).1, h.down⟩ : LProg F) := rfl
    iintro H
    iapply (Entails.of_eq (congrArg (fun p => wpL c (some (.inr 138)) p K) e'.symm))
    iapply (wp_assume 𝕍 (c.tc : Thread nD τ) (some (.inr 138)) Set.univ (noTables (F := F)).2)
    iapply e $$ H
  iintro ⟨Hk, Hbd, Harr, HO⟩
  ihave Hbd := (Entails.of_eq hb) $$ Hbd
  icases Hbd with ⟨Hsc, Hss, Hidle⟩
  iapply (wp_customCall 𝕍 (c.tc : Thread nD τ) none Set.univ (ℓ := Pipeline.entry 0) (a := ()) (k := k) (Q := Q) (Sum.inr 138 : (𝕍).V) h1) $$ Hsc
  iintro Hsc
  iapply (hentry _)
  ihave H := (enter c Rm X O z) $$ [Harr Hsc Hss]
  · isplitl [Harr]; · iexact Harr
    unfold Scratch
    isplitl [Hsc] <;> iassumption
  icases H with ⟨⟨%f0, %f1, Hst⟩, Hw⟩
  iapply (wp_all c Rm X O z (noTables (F := F)) f0 f1 (fun _ => z) _ h2 _) $$ [Hst Hw HO]
  · isplitl [Hst]; · iexact Hst
    isplitl [Hw] <;> iassumption
  iintro ⟨Hst, Hw, HO⟩
  ihave H := (leave c Rm X z Rm (fun _ => z) (final Rm X z)) $$ [Hst Hw]
  · isplitl [Hst] <;> iassumption
  icases H with ⟨Harr, Hss, Hsc⟩
  iapply (Entails.of_eq (kernelExitSpec_apply (c.tc : Thread nD τ) _).symm)
  isplitl [Hss]; · iexact Hss
  iintro Hss
  isplitl [Hsc]; · iexact Hsc
  iintro Hsc
  iapply Hk
  isplitl [Hsc Hss Hidle]
  · iapply (Entails.of_eq hb.symm)
    isplitl [Hsc]; · iexact Hsc
    isplitl [Hss] <;> iassumption
  isplitl [Harr] <;> iassumption

end Cert.Ring

end
-- ==== Proof.Launch.lean ====
/-
  The whole program: the host's operations, the region and the host's last operation, from any memory with every
  semaphore at zero. It ends with the arguments as they were, the result the transpose back of the masked transpose, and
  every semaphore at zero (`run_main`).
-/
module

public import proofs.«01_k».proof.Proof.Call

@[expose] public section

noncomputable section

namespace Cert.Ring

open Cert.KernelIdeal Cert.KernelIdeal.Gen
open Idealize.ShloMosaic Idealize.ShloMosaic.TcCoe Idealize.ShloMosaic.Tactic
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝕍" => Variants.none.lift

variable (m : (ℓ : Loc nD τ sig) → Buf (Elt F) ℓ)

/-- The zero of the format. -/
def zero : F .f32 := (constant S_ .f32 0x00000000#32 : S_.Idx → Elt F .f32) (fun d => d.elim0)

/-- The result: the input transposed, masked and transposed back. -/
def result (x : S64x8x4096x17.Idx → F .f32) (r : S6.Idx → BitVec 32) : S64x8x4096x17.Idx → F .f32 :=
  transpose S64x8x4096x17 [0, 2, 3, 1]
    (final r (transpose S64x17x8x4096 [0, 3, 1, 2] x transposes_S64x8x4096x17_S64x17x8x4096_0_3_1_2) (zero (F := F)))
    transposes_S64x17x8x4096_S64x8x4096x17_0_2_3_1

/-- The arrays at launch, -/
abbrev V0 (c : Dev nD) : Valuation τ sig (Elt F) := fun b => m ((c : Dev nD), b)
/-- after the host's first operations, -/
abbrev V1 (c : Dev nD) : Valuation τ sig (Elt F) := StableHlo.after hostOps0 (V0 m c)
/-- The contents the kernel finds: the removed electrodes and the transposed input, -/
abbrev argR (c : Dev nD) : S6.Idx → BitVec 32 := m ((c : Dev nD), (main_arg1 : DevRef τ sig))
abbrev argX (c : Dev nD) : S64x8x4096x17.Idx → F .f32 := m ((c : Dev nD), (main_arg0 : DevRef τ sig))
abbrev argT (c : Dev nD) : S64x17x8x4096.Idx → F .f32 :=
  transpose S64x17x8x4096 [0, 3, 1, 2] (argX m c) transposes_S64x8x4096x17_S64x17x8x4096_0_3_1_2
/-- after the region, -/
abbrev V2 (c : Dev nD) : Valuation τ sig (Elt F) :=
  Function.update (V1 m c) (Proc.devRef .tc main_v2) (final (argR m c) (argT m c) (zero (F := F)))
/-- and at the end. -/
abbrev V3 (c : Dev nD) : Valuation τ sig (Elt F) := StableHlo.after hostOps1 (V2 m c)

theorem V1_arg0 (c : Dev nD) : V1 m c main_arg0 = argX m c := rfl
theorem V1_arg1 (c : Dev nD) : V1 m c main_arg1 = argR m c := rfl
theorem V1_v0 (c : Dev nD) : V1 m c main_v0 = argT m c := rfl
theorem V1_v1 (c : Dev nD) : V1 m c main_v1 = (fun _ => zero (F := F) : S8x8x4096.Idx → F .f32) := rfl
theorem V3_arg0 (c : Dev nD) : V3 m c main_arg0 = argX m c := rfl
theorem V3_arg1 (c : Dev nD) : V3 m c main_arg1 = argR m c := rfl
theorem V3_v3 (c : Dev nD) : V3 m c main_v3 = result (argX m c) (argR m c) := rfl

/-- The arrays outside the kernel's scoped memory, listed. -/
theorem arrays_eq (c : Dev nD) (W : Valuation τ sig (Elt F)) :
    (StableHlo.held (c.tc : Thread nD τ) (Pipeline.ucRefs τ sig) W : sProp 𝕄)
      = iprop(whole c main_arg0 (W main_arg0) ∗ whole c main_cst (W main_cst) ∗ whole c main_v3 (W main_v3)
        ∗ whole c main_arg1 (W main_arg1) ∗ whole c main_v1 (W main_v1) ∗ whole c main_v0 (W main_v0) ∗ whole c main_v2 (W main_v2)) := by
  unfold StableHlo.held
  rw [bigSep_eq_bigSepL_of_eq [Proc.devRef .tc main_arg0, Proc.devRef .tc main_cst, Proc.devRef .tc main_v3, Proc.devRef .tc main_arg1,
    Proc.devRef .tc main_v1, Proc.devRef .tc main_v0, Proc.devRef .tc main_v2] (by decide) (by decide)]
  rfl

/-- The contents of the tables read ahead of each pallas_call's grid: there are none. -/
abbrev adm : (p : Fin 1) → (pcfgs (F := F) p).Adm := fun p => (cfgs p).toPCfg_adm

/-- The region is run by its own rule (`wp_region`), so of the data a launch lists for its pallas_calls none is used. -/
def dats : (p : Fin 1) → (c : Dev nD) → Pipeline.Dat τ (Elt F) Unit ℕ (Pipeline.UD sig nD τ) ℕ (Pipeline.pin (pcfgs (F := F)) adm p) c :=
  fun _ _ => { A := fun _ => Classical.arbitrary _, after := fun _ _ _ => Classical.arbitrary _, Φ := fun _ => iprop(emp), q := fun _ => fullShare, owed := fun _ => 0 }

/-- No semaphore has a level. -/
abbrev noLevels : GSem nD τ sig → Finset Unit := fun _ => ∅
abbrev noLevel : GSem nD τ sig → Unit → ℕ := fun _ _ => 0

local notation "ℍ" => Pipeline.HostSeg (Name := ℕ) (U := Pipeline.UD sig nD τ) (pcfgs (F := F)) defs₀ Variants.none noLevels noLevel

theorem first_sub : ∀ op ∈ (hostOps0 : List (HloOp τ sig (Elt F))), op.bufs ⊆ Pipeline.ucRefs τ sig :=
  fun op h => Pipeline.sub_ucRefs op (List.forall_iff_forall_mem.mp hostOps0_sub op h)
theorem last_sub : ∀ op ∈ (hostOps1 : List (HloOp τ sig (Elt F))), op.bufs ⊆ Pipeline.ucRefs τ sig :=
  fun op h => Pipeline.sub_ucRefs op (List.forall_iff_forall_mem.mp hostOps1_sub op h)
theorem first_fresh : ∀ op ∈ (hostOps0 : List (HloOp τ sig (Elt F))), op.fresh = ∅ :=
  List.forall_iff_forall_mem.mp ⟨rfl, rfl, rfl⟩
theorem last_fresh : ∀ op ∈ (hostOps1 : List (HloOp τ sig (Elt F))), op.fresh = ∅ :=
  List.forall_iff_forall_mem.mp (rfl : (hostOps1 (F := F)).Forall fun op => op.fresh = ∅)

/-- The host's first operations. -/
def before : ℍ := Pipeline.HostSeg.ofOps _ _ _ _ _ (Pipeline.ucRefs τ sig) hostOps0 first_sub first_fresh (V0 m) fun c => Owes (F := F) c

/-- The arrays before the region are those the kernel names and the others; -/
theorem arrays_before (c : Dev nD) : (StableHlo.held (c.tc : Thread nD τ) (Pipeline.ucRefs τ sig) (V1 m c) : sProp 𝕄)
    = iprop(whole c main_arg0 (V1 m c main_arg0) ∗ whole c main_cst (V1 m c main_cst) ∗ whole c main_v3 (V1 m c main_v3)
      ∗ Arrays c (argR m c) (argT m c) (zero (F := F)) (V1 m c main_v2)) := arrays_eq c (V1 m c)

/-- after it the output's alone has changed. -/
theorem arrays_after (c : Dev nD) : (StableHlo.held (c.tc : Thread nD τ) (Pipeline.ucRefs τ sig) (V2 m c) : sProp 𝕄)
    = iprop(whole c main_arg0 (V1 m c main_arg0) ∗ whole c main_cst (V1 m c main_cst) ∗ whole c main_v3 (V1 m c main_v3)
      ∗ Arrays c (argR m c) (argT m c) (zero (F := F)) (final (argR m c) (argT m c) (zero (F := F)))) := arrays_eq c (V2 m c)

/-- The region. -/
def region : ℍ where
  prog := Prog.lift (.customCall (Pipeline.entry 0) ())
  pre c := iprop(StableHlo.held (c.tc : Thread nD τ) (Pipeline.ucRefs τ sig) (V1 m c) ∗ Owes (F := F) c)
  post c := iprop(StableHlo.held (c.tc : Thread nD τ) (Pipeline.ucRefs τ sig) (V2 m c) ∗ Owes (F := F) c)
  run c {β} k K := by
    rw [arrays_before, arrays_after]
    iintro ⟨Hk, Hbd, ⟨⟨H0, H1, H2, Ha⟩, HO⟩, -⟩
    iapply (wp_region c (argR m c) (argT m c) (V1 m c main_v2) (zero (F := F)) k K)
    isplitr [Hbd Ha HO]
    · iintro ⟨Hbd, Ha, HO⟩
      iapply Hk
      isplitl [Hbd]; · iexact Hbd
      isplitr [HO]
      · isplitl [H0]; · iexact H0
        isplitl [H1]; · iexact H1
        isplitl [H2] <;> iassumption
      · iexact HO
    isplitl [Hbd]; · iexact Hbd
    isplitl [Ha] <;> iassumption

/-- The host's last operation. -/
def after : ℍ := Pipeline.HostSeg.ofOps _ _ _ _ _ (Pipeline.ucRefs τ sig) hostOps1 last_sub last_fresh (V2 m) fun c => Owes (F := F) c

/-- The program's three parts. -/
def segs : List (Pipeline.Seg (pcfgs (F := F)) adm dats () defs₀ Variants.none noLevels noLevel) :=
  [.host (before m), .host (region m), .host (after m)]

theorem main_eq (c : Dev nD) : main (F := F) c = Pipeline.Seg.run (segs m) := by
  rw [main_chain]
  rfl

/-- All semaphores belong to the kernel's scoped memory. -/
theorem all_scoped : ∀ sm : SemLoc sig, sm.isScoped .tc = true := by decide

theorem cells_inj : Function.Injective (Pipeline.cellOf (nD := nD) (τ := τ) (Pipeline.pin (pcfgs (F := F)) adm)) := cellOf_inj

/-- What the final memory holds on core `c`. -/
def Ends (c : Dev nD) (s : MemSt nD τ sig (Elt F)) : Prop :=
  s.mem ((Memref.whole main_arg0).view.loc (c.tc : Thread nD τ)) = argX m c
    ∧ s.mem ((Memref.whole main_arg1).view.loc (c.tc : Thread nD τ)) = argR m c
    ∧ s.mem ((Memref.whole main_v3).view.loc (c.tc : Thread nD τ)) = result (argX m c) (argR m c)

/-- The last state of core `c`: the arguments and the result. -/
abbrev Last (c : Dev nD) : sProp 𝕄 :=
  iprop(whole c main_arg0 (argX m c) ∗ whole c main_arg1 (argR m c) ∗ whole c main_v3 (result (argX m c) (argR m c)))

/-- The arrays at the end hold it. -/
theorem last_of_after (c : Dev nD) : (StableHlo.held (c.tc : Thread nD τ) (Pipeline.ucRefs τ sig) (V3 m c) : sProp 𝕄) ⊢ Last m c := by
  rw [arrays_eq]
  iintro ⟨H0, -, H3, H1, -⟩
  isplitl [H0]; · iexact H0
  isplitl [H1]; · iexact H1
  iexact H3

set_option backward.isDefEq.respectTransparency.types false in
/-- From any memory with zero semaphores every fair run ends, the arguments as they were, the result the input masked, and
    every semaphore at zero again. -/
theorem run_main (g : Dev nD → PrngReg) : θ_run (defs (F := F)) (onTc (τ := τ) (main (F := F))) ⟨m, fun _ => 0, g⟩
    fun r => (∀ c : Dev nD, Ends m c r.2) ∧ r.2.sem = fun _ => 0 :=
  Pipeline.θ_run_regions_kit_sems (pcfgs (F := F)) adm dats () cells_inj embL defs₀ Variants.none noLevels noLevel m g main (segs m)
    (fun c Q => by rw [main_eq m c])
    (by simp only [segs, Pipeline.Seg.pipes_host, Pipeline.Seg.pipes_nil]; exact List.nodup_nil)
    (O₀ := 0) (hL := fun _ _ => rfl) (G := fun _ => iprop(emp))
    (u₀ := (Rounds.initOf (Pipeline.cells (Pipeline.pin (pcfgs (F := F)) adm) cells_inj) (Pipeline.launchToks (Pipeline.pin (pcfgs (F := F)) adm) cells_inj), 1))
    (hu₀ := by
      iintro Hu
      ihave H := (ownU_pair _ _) $$ Hu
      icases H with ⟨HP, -⟩
      imodintro
      isplitl [HP]; · iexact HP
      iapply (Entails.of_eq (BI.bigSep_emp_const (M := 𝕄) (Finset.univ : Finset (Dev nD))).symm)
      iempintro)
    (T₀ := fun c => iprop(StableHlo.held (c.tc : Thread nD τ) (Pipeline.ucRefs τ sig) (V0 m c) ∗ Owes (F := F) c))
    (Tₙ := Last m)
    (hch := by
      refine ⟨fun c => .rfl, fun c => .rfl, fun c => .rfl, fun c => ?_⟩
      show iprop(StableHlo.held (c.tc : Thread nD τ) (Pipeline.ucRefs τ sig) (V3 m c) ∗ Owes (F := F) c)
        ⊢ iprop(Last m c ∗ ∃ W, owes (c.tc : Thread nD τ) (0 : CellTallies nD τ sig Unit) W)
      iintro ⟨Hh, HO⟩
      isplitl [Hh]
      · iapply (last_of_after m c) $$ Hh
      iapply (show Owes (F := F) c ⊢ iprop(∃ W, owes (c.tc : Thread nD τ) (0 : CellTallies nD τ sig Unit) W) from Entails.refl _) $$ HO)
    (hinit := by
      refine Pipeline.initEach noLevels noLevel fun c => ?_
      rw [show (unscopedBufs c (fun b => m ((c.tc : Thread nD τ).loc b)) : sProp 𝕄)
        = StableHlo.held (c.tc : Thread nD τ) (Pipeline.ucRefs τ sig) (V0 m c) from Pipeline.unscopedBufs_held c (V0 m c)]
      iintro ⟨⟨Hh, -, HO, -, -, -⟩, -⟩
      imodintro
      isplitl [Hh]; · iexact Hh
      unfold Owes
      iexists ∅; iexact HO)
    (QY := Ends m)
    (hfin := fun c s' => by
      iintro ⟨⟨Hx, Hr, Hv⟩, HSI⟩
      icombine HSI Hx gives %hx
      icombine HSI Hr gives %hr
      icombine HSI Hv gives %hv
      imodintro
      isplitr
      · ipureintro
        exact ⟨Buf.eq_of_forall_mem_univ hx, Buf.eq_of_forall_mem_univ hr, Buf.eq_of_forall_mem_univ hv⟩
      iexact HSI)
    (hQ := fun s h hs => ⟨h, sem_eq_zero_of_scoped all_scoped hs⟩)

end Cert.Ring

end
-- ==== Proof.Same.lean ====
/-
  The kernel as it stands and the one read for its ideal claims are the same program, text for text: no operation was
  replaced. So what is shown of the one, for any float values, holds of the other (`run_kernel`).
-/
module

public import proofs.«01_k».proof.Proof.Launch
public import proofs.«01_k».proof.Proof.Gen.Kernel

@[expose] public section

noncomputable section

namespace Cert.Ring

open Idealize.ShloMosaic Idealize.ShloMosaic.TcCoe Idealize.SL Idealize.SL.Sem

attribute [local instance] Cert.Kernel.Gen.facts Cert.KernelIdeal.Gen.facts

variable {F : FTy → Type} [FloatOps F]

/-- The kernels' bodies agree. -/
theorem bodies_same : (Cert.Kernel.defs₀ : Defs Cert.Kernel.nD Cert.Kernel.τ Cert.Kernel.sig (Elt F) Cert.Kernel.Λ₀)
    = (Cert.KernelIdeal.defs₀ : Defs Cert.KernelIdeal.nD Cert.KernelIdeal.τ Cert.KernelIdeal.sig (Elt F) Cert.KernelIdeal.Λ₀) := by
  funext pr ℓ a
  cases pr
  · match ℓ, a with
    | 0, (t, s) => rfl
  all_goals rfl

/-- The bodies and the pallas_call agree. -/
theorem defs_same : Cert.Kernel.defs (F := F) = Cert.KernelIdeal.defs (F := F) := by
  have h : Pipeline.defs (Cert.Kernel.pcfgs (F := F)) (Cert.KernelIdeal.defs₀ (F := F))
      = Pipeline.defs (Cert.KernelIdeal.pcfgs (F := F)) (Cert.KernelIdeal.defs₀ (F := F)) := rfl
  unfold Cert.Kernel.defs Cert.KernelIdeal.defs
  rw [bodies_same]
  exact h

/-- The run depends on the table of bodies only through what it is. -/
theorem run_of_eq {nD : ℕ} {τ : Topo} {sig : RefSig} {Val : EltTy → Type} {Λ : Labels} {D D' : Defs nD τ sig Val Λ} (h : D = D')
    (p : Dev nD → Prog (TpuEff nD τ sig Val Λ .tc) PUnit) (s : MemSt nD τ sig Val) (Q : _ → Prop)
    (H : θ_run D' (onTc (τ := τ) p) s Q) : θ_run D (onTc (τ := τ) p) s Q := by
  subst h
  exact H

/-- What `run_main` says, of the kernel as it stands. -/
theorem run_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩
      fun r => (∀ c : Dev Cert.Kernel.nD, Ends (F := F) m c r.2) ∧ r.2.sem = fun _ => 0 :=
  run_of_eq defs_same (Cert.Kernel.main (F := F)) _ _ (run_main (F := F) m g)

end Cert.Ring

end
-- ==== Proof.Value.lean ====
/-
  The result is the reference's, element by element: where the electrode's label is among the removed ones the kernel
  writes a zero and the reference multiplies by 0, elsewhere the kernel copies the element and the reference multiplies
  by 1. On the extended reals both hold for every input, infinite ones too.
-/
module

public import proofs.«01_k».proof.Proof.Launch
public import proofs.«01_k».proof.Proof.Gen.ReferenceIdeal.Run
public import Idealize.ShloMosaic.Lib.Pointwise
public import Idealize.ShloMosaic.Lib.Routing.OpsOrder

@[expose] public section

noncomputable section

namespace Cert.Ring

open Cert.ReferenceIdeal Cert.ReferenceIdeal.Gen
open Idealize.ShloMosaic Idealize.ShloMosaic.TcCoe

/-- Whether an electrode is removed, as the reference computes it: its label compared with all six, any of them. -/
def removedBit (r : S6.Idx → BitVec 32) : S17.Idx → BitVec 1 :=
  Host.reduce IntOp.ori
    (cmpi .eq
      (broadcastInDim S17x6 ![0, 1] bcast_S17x1_S17x6_0_1
        (broadcastInDim S17x1 ![0] bcast_S17_S17x1_0 (addi (iotaInDim S17 32 0) (broadcastInDim S17 ![] bcast_S_S17 (constantI S_ 32 1#32)))))
      (broadcastInDim S17x6 ![0, 1] bcast_S1x6_S17x6_0_1 (broadcastInDim S1x6 ![1] bcast_S6_S1x6_1 r)))
    (constantI S_ 1 0#1) reducesTo_S17x6_S17_d1 h_S_

/-- The reference's result: the input times the mask, 0 at the removed electrodes and 1 at the others. -/
def expected (x : S64x8x4096x17.Idx → Ideal .f32) (r : S6.Idx → BitVec 32) : S64x8x4096x17.Idx → Ideal .f32 :=
  mulf x (broadcastInDim S64x8x4096x17 ![0, 1, 2, 3] bcast_S1x1x1x17_S64x8x4096x17_0_1_2_3
    (broadcastInDim S1x1x1x17 ![3] bcast_S17_S1x1x1x17_3
      (select (removedBit r) (broadcastInDim S17 ![] bcast_S_S17 (constant S_ .f32 0x00000000#32))
        (broadcastInDim S17 ![] bcast_S_S17 (constant S_ .f32 0x3F800000#32)))))

/-- The bit at an electrode, the comparisons one by one. -/
theorem removedBit_fold (r : S6.Idx → BitVec 32) (e : Fin 17) : removedBit r (ix1 e)
    = Finset.fold IntOp.ori (0#1) (fun j : Fin 6 => IntOp.cmpi .eq (IntOp.addi (BitVec.ofNat 32 e.1) 1#32) (r (ix1 j))) Finset.univ := by
  unfold removedBit
  pointwise

theorem rem_ix (j : Fin 6) : (ix1 j : S6.Idx) = remIx j := by
  funext d
  fin_cases d
  rfl

/-- The bit is 1 exactly when the kernel does not keep the electrode. -/
theorem removedBit_eq (r : S6.Idx → BitVec 32) (e : Fin 17) :
    removedBit r (ix1 e) = 1#1 ↔ ¬ Kept (BitVec.ofNat 32 e.1) fun j => r (remIx j) := by
  rw [removedBit_fold, Routing.fold_ori]
  simp only [Kept, not_forall, not_not, Finset.mem_univ, true_and, rem_ix, IntOp.cmpi_eq]
  rfl

/-- The reference's element: 0 at a removed electrode, the input's elsewhere. -/
theorem expected_apply (x : S64x8x4096x17.Idx → Ideal .f32) (r : S6.Idx → BitVec 32) (a : Fin 64) (b : Fin 8) (t : Fin 4096) (e : Fin 17) :
    expected x r (ix4 a b t e) = Scalar.select (removedBit r (ix1 e)) (0 : Ideal .f32) (x (ix4 a b t e)) := by
  unfold expected
  pointwise

/-- The kernel's element: the input's where the electrode is kept, a zero elsewhere. -/
theorem result_apply (x : S64x8x4096x17.Idx → Ideal .f32) (r : S6.Idx → BitVec 32) (a : Fin 64) (b : Fin 8) (t : Fin 4096) (e : Fin 17) :
    result (F := Ideal) x r (ix4 a b t e) = if Kept (BitVec.ofNat 32 e.1) (fun j => r (remIx j)) then x (ix4 a b t e) else (0 : Ideal .f32) := by
  unfold result final zero
  pointwise

/-- Element by element the kernel's result is the reference's. -/
theorem result_eq (x : S64x8x4096x17.Idx → Ideal .f32) (r : S6.Idx → BitVec 32) : result (F := Ideal) x r = expected x r := by
  funext i
  idx_vars i
  have h := removedBit_eq r i3
  rw [result_apply, expected_apply]
  by_cases hk : Kept (BitVec.ofNat 32 i3.1) fun j => r (remIx j)
  · rw [if_pos hk, (BitVec.eq_zero_or_eq_one _).resolve_right fun h1 => h.1 h1 hk]
    rfl
  · rw [if_neg hk, h.2 hk]
    rfl

end Cert.Ring

end
-- ==== Proof.lean ====
/-
  The claims, put together. The frames of the kernel and of its ideal reading are `run_kernel` and `run_main`, the
  reference's is its generated run, with no semaphore to come back to zero; no operation was replaced, so nothing is to
  be shown of a replacement; and the two results are equal by `result_eq`, the arguments being equal.
-/
module

public import proofs.«01_k».proof.Defs
public import proofs.«01_k».proof.Proof.Same
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem Cert.Ring

attribute [local instance] Cert.Kernel.Gen.facts Cert.KernelIdeal.Gen.facts Cert.ReferenceIdeal.Gen.facts

/-- The kernel runs to its end, its arguments unchanged and every semaphore at zero. -/
theorem frame_kernel : Cert.quiescent_Kernel := fun m g _ =>
  (θ_run Cert.Kernel.defs _ _).mono (fun _ h => ⟨fun c => ⟨(h.1 c).1, (h.1 c).2.1⟩, h.2⟩) (run_kernel m g)

/-- So does the kernel at the ideal values. -/
theorem frame_ideal : Cert.quiescent_KernelIdeal := fun m g _ =>
  (θ_run Cert.KernelIdeal.defs _ _).mono (fun _ h => ⟨fun c => ⟨(h.1 c).1, (h.1 c).2.1⟩, h.2⟩) (run_main m g)

/-- So does the reference at the ideal values. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- From equal arguments the kernel and the reference end with equal results, on the extended reals. -/
theorem equal_results : Cert.algebraic_KernelIdeal_ReferenceIdeal := fun m g m' g' _ hm =>
  ⟨fun c => result (F := Ideal) (argX m c) (argR m c),
    (θ_run Cert.KernelIdeal.defs _ _).mono (fun _ h c => ⟨(h.1 c).2.2, (h.1 c).1, (h.1 c).2.1⟩) (run_main m g),
    (θ_run Cert.ReferenceIdeal.defs _ _).mono (fun _ h c =>
        ⟨(h c).1.trans ((congrArg₂ expected (hm c).1 (hm c).2).trans (result_eq (argX m c) (argR m c)).symm), (h c).2⟩)
      (Cert.ReferenceIdeal.Value.run m' g')⟩

/-- The five claims. -/
theorem claim : Cert.Claim :=
  ⟨Cert.Kernel.Gen.facts, Cert.KernelIdeal.Gen.facts, Cert.ReferenceIdeal.Gen.facts,
    frame_kernel, frame_ideal, frame_reference, trivial, equal_results⟩

end Cert.Proof

end
